-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S10000x16x16x16 : Shape := ⟨4, ![10000, 16, 16, 16]⟩
abbrev S10000x16x16 : Shape := ⟨3, ![10000, 16, 16]⟩
abbrev S10000x16 : Shape := ⟨2, ![10000, 16]⟩
abbrev S48x1 : Shape := ⟨2, ![48, 1]⟩
abbrev S1 : Shape := ⟨1, ![1]⟩
abbrev S48x16 : Shape := ⟨2, ![48, 16]⟩
abbrev S16 : Shape := ⟨1, ![16]⟩
abbrev S_ : Shape := ⟨0, ![]⟩

class Facts : Prop where
  bcast_S_S10000x16 : S_.BroadcastsInDim S10000x16 (![] : Fin 0 → Fin S10000x16.rank)

variable [Facts]

def fn {F : FTy → Type} [FloatOps F] (main_arg0 : FVec F S10000x16x16x16 .f32) (main_arg1 : FVec F S10000x16x16 .f32) (main_arg2 : IVec S10000x16 32) (main_arg3 : FVec F S48x1 .f32) (main_arg4 : FVec F S1 .f32) (main_arg5 : FVec F S48x16 .f32) (main_arg6 : FVec F S16 .f32) (main_arg7 : FVec F S16 .f32) (main_arg8 : FVec F S16 .f32) : IVec S10000x16 1 :=
  let main_c : IVec S_ 32 := constantI S_ 32 0#32
  let main_v0 : IVec S10000x16 32 := broadcastInDim S10000x16 ![] bcast_S_S10000x16 main_c
  let main_v1 : IVec S10000x16 1 := cmpi .sge main_arg2 main_v0
  let main_c_0 : IVec S_ 32 := constantI S_ 32 10000#32
  let main_v2 : IVec S10000x16 32 := broadcastInDim S10000x16 ![] bcast_S_S10000x16 main_c_0
  let main_v3 : IVec S10000x16 1 := cmpi .slt main_arg2 main_v2
  let main_v4 : IVec S10000x16 1 := andi main_v1 main_v3
  main_v4
-- ==== Kernel.lean ====
abbrev S10000x16x16x16 : Shape := ⟨4, ![10000, 16, 16, 16]⟩
abbrev S10000x16x16 : Shape := ⟨3, ![10000, 16, 16]⟩
abbrev S10000x16 : Shape := ⟨2, ![10000, 16]⟩
abbrev S48x1 : Shape := ⟨2, ![48, 1]⟩
abbrev S1 : Shape := ⟨1, ![1]⟩
abbrev S48x16 : Shape := ⟨2, ![48, 16]⟩
abbrev S16 : Shape := ⟨1, ![16]⟩
abbrev S16x16 : Shape := ⟨2, ![16, 16]⟩
abbrev S_ : Shape := ⟨0, ![]⟩
abbrev S16x1 : Shape := ⟨2, ![16, 1]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S1x16x1x1 : Shape := ⟨4, ![1, 16, 1, 1]⟩
abbrev S1x16x16x1 : Shape := ⟨4, ![1, 16, 16, 1]⟩
abbrev S256x512 : Shape := ⟨2, ![256, 512]⟩
abbrev S1x16x16x16 : Shape := ⟨4, ![1, 16, 16, 16]⟩
abbrev S16x256 : Shape := ⟨2, ![16, 256]⟩
abbrev S1x16x256x1 : Shape := ⟨4, ![1, 16, 256, 1]⟩
abbrev S16x512 : Shape := ⟨2, ![16, 512]⟩
abbrev S1x16 : Shape := ⟨2, ![1, 16]⟩
abbrev S256 : Shape := ⟨1, ![256]⟩
abbrev S1x256 : Shape := ⟨2, ![1, 256]⟩
abbrev S4x256 : Shape := ⟨2, ![4, 256]⟩
abbrev S10000x2x128 : Shape := ⟨3, ![10000, 2, 128]⟩
abbrev S160000x256 : Shape := ⟨2, ![160000, 256]⟩
abbrev S160000x16 : Shape := ⟨2, ![160000, 16]⟩
abbrev S1x160000 : Shape := ⟨2, ![1, 160000]⟩
abbrev S160000x2x128 : Shape := ⟨3, ![160000, 2, 128]⟩
abbrev S2x1x128 : Shape := ⟨3, ![2, 1, 128]⟩
abbrev S2 : Shape := ⟨1, ![2]⟩
abbrev S2x128x2x128 : Shape := ⟨4, ![2, 128, 2, 128]⟩
abbrev S1x1x128 : Shape := ⟨3, ![1, 1, 128]⟩
abbrev S1x128 : Shape := ⟨2, ![1, 128]⟩
abbrev S1x128x2x128 : Shape := ⟨4, ![1, 128, 2, 128]⟩
abbrev S128x2x128 : Shape := ⟨3, ![128, 2, 128]⟩
abbrev S128 : Shape := ⟨1, ![128]⟩
abbrev S2000x256 : Shape := ⟨2, ![2000, 256]⟩
abbrev S2000x16 : Shape := ⟨2, ![2000, 16]⟩
abbrev S2000x512 : Shape := ⟨2, ![2000, 512]⟩

abbrev nBuf : Table → Nat
  | .hbm => 99
  | .local .tc .vmem => 13
  | .local .scVector .vmem => 2
  | _ => 0

abbrev bufTy : (tb : Table) → Fin (nBuf tb) → BufTy
  | .hbm, ⟨0, _⟩ => ⟨S10000x16x16x16, .f32⟩
  | .hbm, ⟨1, _⟩ => ⟨S10000x16x16, .f32⟩
  | .hbm, ⟨2, _⟩ => ⟨S10000x16, .i32⟩
  | .hbm, ⟨3, _⟩ => ⟨S48x1, .f32⟩
  | .hbm, ⟨4, _⟩ => ⟨S1, .f32⟩
  | .hbm, ⟨5, _⟩ => ⟨S48x16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S16x16, .i1⟩
  | .hbm, ⟨15, _⟩ => ⟨S16x16, .f32⟩
  | .hbm, ⟨16, _⟩ => ⟨S16x16, .f32⟩
  | .hbm, ⟨17, _⟩ => ⟨S16x16, .f32⟩
  | .hbm, ⟨18, _⟩ => ⟨S16x16, .f32⟩
  | .hbm, ⟨19, _⟩ => ⟨S16x1, .f32⟩
  | .hbm, ⟨20, _⟩ => ⟨S16, .f32⟩
  | .hbm, ⟨21, _⟩ => ⟨S16x1, .f32⟩
  | .hbm, ⟨22, _⟩ => ⟨S16, .f32⟩
  | .hbm, ⟨23, _⟩ => ⟨S16x1, .f32⟩
  | .hbm, ⟨24, _⟩ => ⟨S16, .f32⟩
  | .hbm, ⟨25, _⟩ => ⟨S16x1x16x1, .f32⟩
  | .hbm, ⟨26, _⟩ => ⟨S1x16x1x16, .f32⟩
  | .hbm, ⟨27, _⟩ => ⟨S16x16x16x16, .f32⟩
  | .hbm, ⟨28, _⟩ => ⟨S16x16x16x16, .f32⟩
  | .hbm, ⟨29, _⟩ => ⟨S16x16x16x16, .f32⟩
  | .hbm, ⟨30, _⟩ => ⟨S256x256, .f32⟩
  | .hbm, ⟨31, _⟩ => ⟨S16x1, .f32⟩
  | .hbm, ⟨32, _⟩ => ⟨S1x16x1x1, .f32⟩
  | .hbm, ⟨33, _⟩ => ⟨S1x16x16x1, .f32⟩
  | .hbm, ⟨34, _⟩ => ⟨S16x16, .f32⟩
  | .hbm, ⟨35, _⟩ => ⟨S16x1x16x1, .f32⟩
  | .hbm, ⟨36, _⟩ => ⟨S1x16x1x16, .f32⟩
  | .hbm, ⟨37, _⟩ => ⟨S16x16x16x16, .f32⟩
  | .hbm, ⟨38, _⟩ => ⟨S16x16x16x16, .f32⟩
  | .hbm, ⟨39, _⟩ => ⟨S16x16x16x16, .f32⟩
  | .hbm, ⟨40, _⟩ => ⟨S256x256, .f32⟩
  | .hbm, ⟨41, _⟩ => ⟨S256x512, .f32⟩
  | .hbm, ⟨42, _⟩ => ⟨S16x1x16x1, .f32⟩
  | .hbm, ⟨43, _⟩ => ⟨S1x16x1x16, .f32⟩
  | .hbm, ⟨44, _⟩ => ⟨S16x16x16x16, .f32⟩
  | .hbm, ⟨45, _⟩ => ⟨S16x16x16x16, .f32⟩
  | .hbm, ⟨46, _⟩ => ⟨S16x16x16x16, .f32⟩
  | .hbm, ⟨47, _⟩ => ⟨S256x256, .f32⟩
  | .hbm, ⟨48, _⟩ => ⟨S16x1, .f32⟩
  | .hbm, ⟨49, _⟩ => ⟨S1x16x1x1, .f32⟩
  | .hbm, ⟨50, _⟩ => ⟨S1x16x16x1, .f32⟩
  | .hbm, ⟨51, _⟩ => ⟨S16x16, .f32⟩
  | .hbm, ⟨52, _⟩ => ⟨S16x1x16x1, .f32⟩
  | .hbm, ⟨53, _⟩ => ⟨S1x16x1x16, .f32⟩
  | .hbm, ⟨54, _⟩ => ⟨S16x16x16x16, .f32⟩
  | .hbm, ⟨55, _⟩ => ⟨S16x16x16x16, .f32⟩
  | .hbm, ⟨56, _⟩ => ⟨S16x16x16x16, .f32⟩
  | .hbm, ⟨57, _⟩ => ⟨S256x256, .f32⟩
  | .hbm, ⟨58, _⟩ => ⟨S256x512, .f32⟩
  | .hbm, ⟨59, _⟩ => ⟨S1x16x1x16, .f32⟩
  | .hbm, ⟨60, _⟩ => ⟨S1x16x16x16, .f32⟩
  | .hbm, ⟨61, _⟩ => ⟨S16x256, .f32⟩
  | .hbm, ⟨62, _⟩ => ⟨S16x1, .f32⟩
  | .hbm, ⟨63, _⟩ => ⟨S1x16x1x1, .f32⟩
  | .hbm, ⟨64, _⟩ => ⟨S1x16x256x1, .f32⟩
  | .hbm, ⟨65, _⟩ => ⟨S16x256, .f32⟩
  | .hbm, ⟨66, _⟩ => ⟨S16x512, .f32⟩
  | .hbm, ⟨67, _⟩ => ⟨S_, .f32⟩
  | .hbm, ⟨68, _⟩ => ⟨S16x16, .f32⟩
  | .hbm, ⟨69, _⟩ => ⟨S16x1x16x1, .f32⟩
  | .hbm, ⟨70, _⟩ => ⟨S1x16x1x16, .f32⟩
  | .hbm, ⟨71, _⟩ => ⟨S16x16x16x16, .f32⟩
  | .hbm, ⟨72, _⟩ => ⟨S16x16x16x16, .f32⟩
  | .hbm, ⟨73, _⟩ => ⟨S16x16x16x16, .f32⟩
  | .hbm, ⟨74, _⟩ => ⟨S256x256, .f32⟩
  | .hbm, ⟨75, _⟩ => ⟨S1x16, .f32⟩
  | .hbm, ⟨76, _⟩ => ⟨S16x16, .f32⟩
  | .hbm, ⟨77, _⟩ => ⟨S256, .f32⟩
  | .hbm, ⟨78, _⟩ => ⟨S_, .f32⟩
  | .hbm, ⟨79, _⟩ => ⟨S256, .f32⟩
  | .hbm, ⟨80, _⟩ => ⟨S1x16, .f32⟩
  | .hbm, ⟨81, _⟩ => ⟨S16x16, .f32⟩
  | .hbm, ⟨82, _⟩ => ⟨S256, .f32⟩
  | .hbm, ⟨83, _⟩ => ⟨S1x16, .f32⟩
  | .hbm, ⟨84, _⟩ => ⟨S16x16, .f32⟩
  | .hbm, ⟨85, _⟩ => ⟨S256, .f32⟩
  | .hbm, ⟨86, _⟩ => ⟨S1x256, .f32⟩
  | .hbm, ⟨87, _⟩ => ⟨S1x256, .f32⟩
  | .hbm, ⟨88, _⟩ => ⟨S1x256, .f32⟩
  | .hbm, ⟨89, _⟩ => ⟨S1x256, .f32⟩
  | .hbm, ⟨90, _⟩ => ⟨S4x256, .f32⟩
  | .hbm, ⟨91, _⟩ => ⟨S10000x2x128, .f32⟩
  | .hbm, ⟨92, _⟩ => ⟨S160000x256, .f32⟩
  | .hbm, ⟨93, _⟩ => ⟨S160000x16, .f32⟩
  | .hbm, ⟨94, _⟩ => ⟨S1x160000, .i32⟩
  | .hbm, ⟨95, _⟩ => ⟨S160000x2x128, .f32⟩
  | .hbm, ⟨96, _⟩ => ⟨S160000x256, .f32⟩
  | .hbm, ⟨97, _⟩ => ⟨S160000x256, .f32⟩
  | .hbm, ⟨98, _⟩ => ⟨S10000x16x16x16, .f32⟩
  | .local .tc .vmem, ⟨0, _⟩ => ⟨S2000x256, .f32⟩
  | .local .tc .vmem, ⟨1, _⟩ => ⟨S2000x256, .f32⟩
  | .local .tc .vmem, ⟨2, _⟩ => ⟨S2000x256, .f32⟩
  | .local .tc .vmem, ⟨3, _⟩ => ⟨S2000x256, .f32⟩
  | .local .tc .vmem, ⟨4, _⟩ => ⟨S2000x16, .f32⟩
  | .local .tc .vmem, ⟨5, _⟩ => ⟨S2000x16, .f32⟩
  | .local .tc .vmem, ⟨6, _⟩ => ⟨S256x512, .f32⟩
  | .local .tc .vmem, ⟨7, _⟩ => ⟨S256x512, .f32⟩
  | .local .tc .vmem, ⟨8, _⟩ => ⟨S16x512, .f32⟩
  | .local .tc .vmem, ⟨9, _⟩ => ⟨S256x256, .f32⟩
  | .local .tc .vmem, ⟨10, _⟩ => ⟨S4x256, .f32⟩
  | .local .tc .vmem, ⟨11, _⟩ => ⟨S2000x256, .f32⟩
  | .local .tc .vmem, ⟨12, _⟩ => ⟨S2000x256, .f32⟩
  | .local .scVector .vmem, ⟨0, _⟩ => ⟨S2x1x128, .i32⟩
  | .local .scVector .vmem, ⟨1, _⟩ => ⟨S2x128x2x128, .f32⟩
  | _, _ => ⟨S10000x16x16x16, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v20 : Ref sig .tc := ⟨.hbm, 40, rfl⟩
abbrev main_v21 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst : Ref sig .tc := ⟨.hbm, 67, rfl⟩
abbrev main_v37 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v55_scv : Ref sig .scVector := ⟨.hbm, 91, rfl⟩
abbrev main_v58_scv : Ref sig .scVector := ⟨.hbm, 94, rfl⟩
abbrev main_v59_scv : Ref sig .scVector := ⟨.hbm, 95, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg8_1 : Ref sig .tc := ⟨.vmem, 12, rfl⟩
abbrev cc0_scoped0 : Ref sig .scVector := ⟨.vmem, 0, rfl⟩
abbrev cc0_scoped2 : Ref sig .scVector := ⟨.vmem, 1, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem8_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k0_cond2 (i : grid0.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k0_off1 : Fin 3 → Nat :=
  let c0_i32_24_r0 : BitVec 32 := 0#32
  let c2_i32_57_r0 : BitVec 32 := 2#32
  let v80_r0 : BitVec 32 := Scalar.remui c0_i32_24_r0 c2_i32_57_r0
  let c0_i32_58_r0 : BitVec 32 := 0#32
  let c0_i32_59_r0 : BitVec 32 := 0#32
  ![v80_r0.toNat, 0, 0]
def k0_off2 (i : grid0.Coords) : Fin 2 → Nat :=
  let c0_i32_60_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k0_off3 : Fin 1 → Nat :=
  let c0_i32_24_r0 : BitVec 32 := 0#32
  let c2_i32_57_r0 : BitVec 32 := 2#32
  let v80_r0 : BitVec 32 := Scalar.remui c0_i32_24_r0 c2_i32_57_r0
  ![v80_r0.toNat]
@[reducible] def k0_t1_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k0_off4 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k0_off5 (i : grid0.Coords) (arg10_r0 : BitVec 32) : Fin 2 → Nat :=
  let c0_i32_105_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v93_r0 : BitVec 1 := Scalar.cmpi .eq v92_r0 v5
  let c0_i32_66_r0 : BitVec 32 := 0#32
  let v94_r0 : BitVec 32 := Scalar.select v93_r0 c0_i32_66_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k0_off6 (arg6_r0 : BitVec 32) : Fin 1 → Nat :=
  let c2_i32_102_r0 : BitVec 32 := 2#32
  let v167_r0 : BitVec 32 := Scalar.remui arg6_r0 c2_i32_102_r0
  ![v167_r0.toNat]
def k0_off7 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k0_off8 (i : grid0.Coords) (arg10_r0 : BitVec 32) : Fin 2 → Nat :=
  let c0_i32_105_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k0_off9 (arg7_r0 : BitVec 32) : Fin 1 → Nat :=
  let c2_i32_102_r0 : BitVec 32 := 2#32
  let v168_r0 : BitVec 32 := Scalar.remui arg7_r0 c2_i32_102_r0
  ![v168_r0.toNat]
def k0_off10 (arg8_r0 : BitVec 32) : Fin 4 → Nat :=
  let c2_i32_85_r0 : BitVec 32 := 2#32
  let v132_r0 : BitVec 32 := Scalar.remui arg8_r0 c2_i32_85_r0
  let c0_i32_102_r1 : BitVec 32 := 0#32
  let c0_i32_103_r1 : BitVec 32 := 0#32
  let c0_i32_104_r1 : BitVec 32 := 0#32
  ![v132_r0.toNat, 0, 0, 0]

def k0_chk2 (i : grid0.Coords) (arg8_r0 : BitVec 32) : Prop :=
  (∀ (k0_h1 : k0_cond1 i = 1#1), ∀ a, (k0_off10 arg8_r0) a + S1x128x2x128.size a ≤ S2x128x2x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x128x2x128.size a ≤ S2x128x2x128.size a := fun i arg8_r0 k0_hw2 k0_h1 => k0_hw2 k0_h1

def k0_off11 (arg7_r0 : BitVec 32) : Fin 3 → Nat :=
  let c2_i32_84_r0 : BitVec 32 := 2#32
  let v131_r0 : BitVec 32 := Scalar.remui arg7_r0 c2_i32_84_r0
  let c0_i32_105_r1 : BitVec 32 := 0#32
  let c0_i32_106_r1 : BitVec 32 := 0#32
  ![v131_r0.toNat, 0, 0]

def k0_chk3 (i : grid0.Coords) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x128.size a ≤ S2x1x128.size a := fun i arg7_r0 k0_hw3 k0_h1 => k0_hw3 k0_h1

def k0_off12 (arg8_r0 : BitVec 32) : Fin 4 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  let c0_i32_105_r0 : BitVec 32 := 0#32
  ![v167_r0.toNat, 0, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k0_off13 (i : grid0.Coords) (arg10_r0 : BitVec 32) : Fin 3 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v168_r0 : BitVec 32 := Scalar.muli c128_i32_r0 v84_r0
  let c0_i32_106_r0 : BitVec 32 := 0#32
  let c0_i32_107_r0 : BitVec 32 := 0#32
  ![v168_r0.toNat, 0, 0]
def k0_off14 (arg8_r0 : BitVec 32) : Fin 1 → Nat :=
  let c2_i32_102_r0 : BitVec 32 := 2#32
  let v167_r0 : BitVec 32 := Scalar.remui arg8_r0 c2_i32_102_r0
  ![v167_r0.toNat]
def k0_off15 (arg9_r0 : BitVec 32) : Fin 4 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  let c0_i32_105_r0 : BitVec 32 := 0#32
  ![v167_r0.toNat, 0, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k0_off16 (i : grid0.Coords) (arg10_r0 : BitVec 32) : Fin 3 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_63_r0 : BitVec 32 := 1#32
  let v88_r0 : BitVec 32 := Scalar.subi v5 c1_i32_63_r0
  let v89_r0 : BitVec 32 := Scalar.select v87_r0 v88_r0 v86_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi v89_r0 v10
  let v168_r0 : BitVec 32 := Scalar.muli c128_i32_r0 v90_r0
  let c0_i32_106_r0 : BitVec 32 := 0#32
  let c0_i32_107_r0 : BitVec 32 := 0#32
  ![v168_r0.toNat, 0, 0]
def k0_off17 (arg9_r0 : BitVec 32) : Fin 1 → Nat :=
  let c2_i32_102_r0 : BitVec 32 := 2#32
  let v167_r0 : BitVec 32 := Scalar.remui arg9_r0 c2_i32_102_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x160000.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x160000.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x2x128.size a ≤ S2x128x2x128.size a) ∧
  (∀ (k0_h1 : k0_cond1 i = 1#1), ∀ (k0_h7 : k0_cond7 i k0_t1 arg10_r0 = 1#1), ∀ a, (k0_off13 i arg10_r0) a + S128x2x128.size a ≤ S160000x2x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x2x128.size a ≤ S2x128x2x128.size a) ∧
  (∀ (k0_h1 : k0_cond1 i = 1#1), ∀ (k0_h9 : k0_cond9 i k0_t1 arg10_r0 = 1#1), ∀ a, (k0_off16 i arg10_r0) a + S128x2x128.size a ≤ S160000x2x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x160000.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x160000.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x2x128.size a ≤ S160000x2x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x2x128.size a ≤ S160000x2x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k0_off18 (arg6_r0 : BitVec 32) : Fin 3 → Nat :=
  let c2_i32_102_r0 : BitVec 32 := 2#32
  let v167_r0 : BitVec 32 := Scalar.remui arg6_r0 c2_i32_102_r0
  let c0_i32_103_r0 : BitVec 32 := 0#32
  let c0_i32_104_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c2_i32_70_r0 : BitVec 32 := 2#32
  let v102_r0 : BitVec 32 := Scalar.subi v80_r0 c2_i32_70_r0
  let c1_i32_71_r0 : BitVec 32 := 1#32
  let v103_r0 : BitVec 32 := Scalar.addi v102_r0 c1_i32_71_r0
  let v104_r0 : BitVec 1 := Scalar.cmpi .sge arg5_r0 v103_r0
  let true_72_r0 : BitVec 1 := 1#1
  let v105_r0 : BitVec 1 := Scalar.xori v104_r0 true_72_r0
  let v106_r0 : BitVec 1 := Scalar.andi v101_r0 v105_r0
  let true_73_r0 : BitVec 1 := 1#1
  let v107_r0 : BitVec 1 := Scalar.andi v106_r0 true_73_r0
  let v108_r0 : BitVec 32 := Scalar.extui v107_r0
  let c0_i32_74_r0 : BitVec 32 := 0#32
  let v109_r0 : BitVec 1 := Scalar.cmpi .ne v108_r0 c0_i32_74_r0
  v109_r0

def k0_off19 (i : grid0.Coords) (arg10_r0 : BitVec 32) : Fin 2 → Nat :=
  let c0_i32_105_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v93_r0 : BitVec 1 := Scalar.cmpi .eq v92_r0 v5
  let c0_i32_66_r0 : BitVec 32 := 0#32
  let v94_r0 : BitVec 32 := Scalar.select v93_r0 c0_i32_66_r0 v92_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k0_off20 (arg6_r0 : BitVec 32) : Fin 1 → Nat :=
  let c2_i32_102_r0 : BitVec 32 := 2#32
  let v167_r0 : BitVec 32 := Scalar.remui arg6_r0 c2_i32_102_r0
  ![v167_r0.toNat]
def k0_off21 (arg7_r0 : BitVec 32) : Fin 3 → Nat :=
  let c2_i32_102_r0 : BitVec 32 := 2#32
  let v168_r0 : BitVec 32 := Scalar.remui arg7_r0 c2_i32_102_r0
  let c0_i32_103_r0 : BitVec 32 := 0#32
  let c0_i32_104_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let v120_r0 : BitVec 1 := Scalar.ori v119_r0 v81_r0
  let c0_i32_80_r0 : BitVec 32 := 0#32
  let v121_r0 : BitVec 1 := Scalar.cmpi .sge arg5_r0 c0_i32_80_r0
  let v122_r0 : BitVec 1 := Scalar.andi v120_r0 v121_r0
  let v123_r0 : BitVec 32 := Scalar.extui v122_r0
  let c0_i32_81_r0 : BitVec 32 := 0#32
  let v124_r0 : BitVec 1 := Scalar.cmpi .ne v123_r0 c0_i32_81_r0
  v124_r0

def k0_off22 (i : grid0.Coords) (arg10_r0 : BitVec 32) : Fin 2 → Nat :=
  let c0_i32_105_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k0_off23 (arg7_r0 : BitVec 32) : Fin 1 → Nat :=
  let c2_i32_102_r0 : BitVec 32 := 2#32
  let v168_r0 : BitVec 32 := Scalar.remui arg7_r0 c2_i32_102_r0
  ![v168_r0.toNat]
def k0_off24 (arg8_r0 : BitVec 32) : Fin 4 → Nat :=
  let c2_i32_85_r0 : BitVec 32 := 2#32
  let v132_r0 : BitVec 32 := Scalar.remui arg8_r0 c2_i32_85_r0
  let c0_i32_102_r2 : BitVec 32 := 0#32
  let c0_i32_103_r2 : BitVec 32 := 0#32
  let c0_i32_104_r2 : BitVec 32 := 0#32
  ![v132_r0.toNat, 0, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x2x128.size a ≤ S2x128x2x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x2x128.size a ≤ S2x128x2x128.size a := fun i k0_t2 arg8_r0 k0_hw5 k0_h1 => k0_hw5 k0_h1

def k0_off25 (arg7_r0 : BitVec 32) : Fin 3 → Nat :=
  let c2_i32_84_r0 : BitVec 32 := 2#32
  let v131_r0 : BitVec 32 := Scalar.remui arg7_r0 c2_i32_84_r0
  let c0_i32_105_r2 : BitVec 32 := 0#32
  let c0_i32_106_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 4 → Nat :=
  let c2_i32_102_r0 : BitVec 32 := 2#32
  let v167_r0 : BitVec 32 := Scalar.remui arg8_r0 c2_i32_102_r0
  let c0_i32_103_r0 : BitVec 32 := 0#32
  let c0_i32_104_r0 : BitVec 32 := 0#32
  let c0_i32_105_r0 : BitVec 32 := 0#32
  ![v167_r0.toNat, 0, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_88_r0 : BitVec 32 := 0#32
  let v141_r0 : BitVec 1 := Scalar.cmpi .ne v140_r0 c0_i32_88_r0
  v141_r0

def k0_off27 (i : grid0.Coords) (arg10_r0 : BitVec 32) : Fin 3 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let v168_r0 : BitVec 32 := Scalar.muli c128_i32_r0 v84_r0
  let c0_i32_106_r0 : BitVec 32 := 0#32
  let c0_i32_107_r0 : BitVec 32 := 0#32
  ![v168_r0.toNat, 0, 0]
def k0_off28 (arg8_r0 : BitVec 32) : Fin 1 → Nat :=
  let c2_i32_102_r0 : BitVec 32 := 2#32
  let v167_r0 : BitVec 32 := Scalar.remui arg8_r0 c2_i32_102_r0
  ![v167_r0.toNat]
def k0_off29 (arg9_r0 : BitVec 32) : Fin 4 → Nat :=
  let c2_i32_102_r0 : BitVec 32 := 2#32
  let v167_r0 : BitVec 32 := Scalar.remui arg9_r0 c2_i32_102_r0
  let c0_i32_103_r0 : BitVec 32 := 0#32
  let c0_i32_104_r0 : BitVec 32 := 0#32
  let c0_i32_105_r0 : BitVec 32 := 0#32
  ![v167_r0.toNat, 0, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32_0 : BitVec 32 := 2#32
  let v6 : BitVec 1 := Scalar.cmpi .slt v3 c2_i32_0
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let true_94_r0 : BitVec 1 := 1#1
  let v152_r0 : BitVec 1 := Scalar.xori v81_r0 true_94_r0
  let v153_r0 : BitVec 1 := Scalar.andi v151_r0 v152_r0
  let v154_r0 : BitVec 32 := Scalar.extui v153_r0
  let c0_i32_95_r0 : BitVec 32 := 0#32
  let v155_r0 : BitVec 1 := Scalar.cmpi .ne v154_r0 c0_i32_95_r0
  v155_r0

def k0_off30 (i : grid0.Coords) (arg10_r0 : BitVec 32) : Fin 3 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_63_r0 : BitVec 32 := 1#32
  let v88_r0 : BitVec 32 := Scalar.subi v5 c1_i32_63_r0
  let v89_r0 : BitVec 32 := Scalar.select v87_r0 v88_r0 v86_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v90_r0 : BitVec 32 := Scalar.addi v89_r0 v10
  let v168_r0 : BitVec 32 := Scalar.muli c128_i32_r0 v90_r0
  let c0_i32_106_r0 : BitVec 32 := 0#32
  let c0_i32_107_r0 : BitVec 32 := 0#32
  ![v168_r0.toNat, 0, 0]
def k0_off31 (arg9_r0 : BitVec 32) : Fin 1 → Nat :=
  let c2_i32_102_r0 : BitVec 32 := 2#32
  let v167_r0 : BitVec 32 := Scalar.remui arg9_r0 c2_i32_102_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x160000.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x160000.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x2x128.size a ≤ S2x128x2x128.size a) ∧
  (∀ (k0_h1 : k0_cond1 i = 1#1), ∀ (k0_h14 : k0_cond14 i k0_t2 arg10_r0 = 1#1), ∀ a, (k0_off27 i arg10_r0) a + S128x2x128.size a ≤ S160000x2x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x2x128.size a ≤ S2x128x2x128.size a) ∧
  (∀ (k0_h1 : k0_cond1 i = 1#1), ∀ (k0_h16 : k0_cond16 i k0_t2 arg10_r0 = 1#1), ∀ a, (k0_off30 i arg10_r0) a + S128x2x128.size a ≤ S160000x2x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x160000.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x160000.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x2x128.size a ≤ S2x128x2x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x2x128.size a ≤ S160000x2x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x2x128.size a ≤ S2x128x2x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x2x128.size a ≤ S160000x2x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k0_off32 (v48_3_r0 : BitVec 32) : Fin 4 → Nat :=
  let c2_i32_57_r0 : BitVec 32 := 2#32
  let v80_r0 : BitVec 32 := Scalar.remui v48_3_r0 c2_i32_57_r0
  let c0_i32_58_r0 : BitVec 32 := 0#32
  let c0_i32_59_r0 : BitVec 32 := 0#32
  let c0_i32_60_r0 : BitVec 32 := 0#32
  ![v80_r0.toNat, 0, 0, 0]

def k0_off33 (i : grid0.Coords) (v48_4_r0 : BitVec 32) : Fin 3 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c2_i32 : BitVec 32 := 2#32
  let v4 : BitVec 1 := Scalar.cmpi .slt v3 c2_i32
  let c40_i32 : BitVec 32 := 40#32
  let c39_i32 : BitVec 32 := 39#32
  let v5 : BitVec 32 := Scalar.select v4 c40_i32 c39_i32
  let c1_i32_40_r0 : BitVec 32 := 1#32
  let v52_r0 : BitVec 32 := Scalar.subi v5 c1_i32_40_r0
  let v53_r0 : BitVec 32 := Scalar.select v51_r0 v52_r0 v50_r0
  let c2_i32_0 : BitVec 32 := 2#32
  let v6 : BitVec 1 := Scalar.cmpi .slt v3 c2_i32_0
  let v7 : BitVec 32 := Scalar.muli v3 v5
  let c39_i32_1 : BitVec 32 := 39#32
  let v8 : BitVec 32 := Scalar.muli v3 c39_i32_1
  let c2_i32_2 : BitVec 32 := 2#32
  let v9 : BitVec 32 := Scalar.addi v8 c2_i32_2
  let v10 : BitVec 32 := Scalar.select v6 v7 v9
  let v59_r0 : BitVec 32 := Scalar.addi v53_r0 v10
  let v81_r0 : BitVec 32 := Scalar.muli c128_i32_r0 v59_r0
  let c0_i32_61_r0 : BitVec 32 := 0#32
  let c0_i32_62_r0 : BitVec 32 := 0#32
  ![v81_r0.toNat, 0, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x2x128.size a ≤ S160000x2x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x2x128.size a ≤ S160000x2x128.size a := fun i v48_4_r0 k0_hw8 k0_h1 k0_h18 => k0_hw8 k0_h1 k0_h18

def k0_off34 (v48_3_r0 : BitVec 32) : Fin 1 → Nat :=
  let c2_i32_57_r0 : BitVec 32 := 2#32
  let v80_r0 : BitVec 32 := Scalar.remui v48_3_r0 c2_i32_57_r0
  ![v80_r0.toNat]
def k0_off35 (v48_3_r0 : BitVec 32) : Fin 4 → Nat :=
  let c2_i32_57_r0 : BitVec 32 := 2#32
  let v80_r0 : BitVec 32 := Scalar.remui v48_3_r0 c2_i32_57_r0
  let c0_i32_65_r0 : BitVec 32 := 0#32
  let c0_i32_66_r0 : BitVec 32 := 0#32
  let c0_i32_67_r0 : BitVec 32 := 0#32
  ![v80_r0.toNat, 0, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x2x128.size a ≤ S2x128x2x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x2x128.size a ≤ S2x128x2x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x2x128.size a ≤ S2x128x2x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x2x128.size a ≤ S2x128x2x128.size a := fun i v48_3_r0 k0_hw7 k0_h1 k0_h18 => k0_hw7.2.2 k0_h1 k0_h18

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x16x16x16 : Shape := ⟨4, ![10000, 16, 16, 16]⟩
abbrev S10000x16x16 : Shape := ⟨3, ![10000, 16, 16]⟩
abbrev S10000x16 : Shape := ⟨2, ![10000, 16]⟩
abbrev S48x1 : Shape := ⟨2, ![48, 1]⟩
abbrev S1 : Shape := ⟨1, ![1]⟩
abbrev S48x16 : Shape := ⟨2, ![48, 16]⟩
abbrev S16 : Shape := ⟨1, ![16]⟩
abbrev S10000x16x1x16 : Shape := ⟨4, ![10000, 16, 1, 16]⟩
abbrev S_ : Shape := ⟨0, ![]⟩
abbrev S10000x16x1 : Shape := ⟨3, ![10000, 16, 1]⟩
abbrev S1x1x1 : Shape := ⟨3, ![1, 1, 1]⟩
abbrev S10000x16x16x32 : Shape := ⟨4, ![10000, 16, 16, 32]⟩
abbrev S10000x16x16x48 : Shape := ⟨4, ![10000, 16, 16, 48]⟩
abbrev S10000x16x16x1 : Shape := ⟨4, ![10000, 16, 16, 1]⟩
abbrev S1x1x1x1 : Shape := ⟨4, ![1, 1, 1, 1]⟩
abbrev S1x1x1x16 : Shape := ⟨4, ![1, 1, 1, 16]⟩

abbrev nBuf : Space → Nat
  | .hbm => 112
  | .vmem => 0
  | .smem => 0
  | _ => 0

abbrev bufTy : (tb : Table) → Fin (tcTables nBuf tb) → BufTy
  | .hbm, ⟨0, _⟩ => ⟨S10000x16x16x16, .f32⟩
  | .hbm, ⟨1, _⟩ => ⟨S10000x16x16, .f32⟩
  | .hbm, ⟨2, _⟩ => ⟨S10000x16, .i32⟩
  | .hbm, ⟨3, _⟩ => ⟨S48x1, .f32⟩
  | .hbm, ⟨4, _⟩ => ⟨S1, .f32⟩
  | .hbm, ⟨5, _⟩ => ⟨S48x16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S10000x16x1x16, .f32⟩
  | .hbm, ⟨10, _⟩ => ⟨S10000x16x16x16, .f32⟩
  | .hbm, ⟨11, _⟩ => ⟨S_, .i32⟩
  | .hbm, ⟨12, _⟩ => ⟨S10000x16, .i32⟩
  | .hbm, ⟨13, _⟩ => ⟨S10000x16, .i1⟩
  | .hbm, ⟨14, _⟩ => ⟨S_, .i32⟩
  | .hbm, ⟨15, _⟩ => ⟨S10000x16, .i32⟩
  | .hbm, ⟨16, _⟩ => ⟨S10000x16, .i32⟩
  | .hbm, ⟨17, _⟩ => ⟨S10000x16, .i32⟩
  | .hbm, ⟨18, _⟩ => ⟨S10000x16x1, .i32⟩
  | .hbm, ⟨19, _⟩ => ⟨S1, .i32⟩
  | .hbm, ⟨20, _⟩ => ⟨S_, .i32⟩
  | .hbm, ⟨21, _⟩ => ⟨S10000x16x1, .i32⟩
  | .hbm, ⟨22, _⟩ => ⟨S10000x16x1, .i1⟩
  | .hbm, ⟨23, _⟩ => ⟨S1x1x1, .i32⟩
  | .hbm, ⟨24, _⟩ => ⟨S10000x16x1, .i32⟩
  | .hbm, ⟨25, _⟩ => ⟨S10000x16x1, .i1⟩
  | .hbm, ⟨26, _⟩ => ⟨S10000x16x1, .i1⟩
  | .hbm, ⟨27, _⟩ => ⟨S_, .i1⟩
  | .hbm, ⟨28, _⟩ => ⟨S10000x16, .i1⟩
  | .hbm, ⟨29, _⟩ => ⟨S10000x16x16x16, .f32⟩
  | .hbm, ⟨30, _⟩ => ⟨S10000x16x16x16, .i1⟩
  | .hbm, ⟨31, _⟩ => ⟨S_, .f32⟩
  | .hbm, ⟨32, _⟩ => ⟨S10000x16x16x16, .f32⟩
  | .hbm, ⟨33, _⟩ => ⟨S10000x16x16x16, .f32⟩
  | .hbm, ⟨34, _⟩ => ⟨S10000x16x16x32, .f32⟩
  | .hbm, ⟨35, _⟩ => ⟨S10000x16x16x48, .f32⟩
  | .hbm, ⟨36, _⟩ => ⟨S10000x16x16x1, .f32⟩
  | .hbm, ⟨37, _⟩ => ⟨S1x1x1x1, .f32⟩
  | .hbm, ⟨38, _⟩ => ⟨S10000x16x16x1, .f32⟩
  | .hbm, ⟨39, _⟩ => ⟨S10000x16x16x1, .f32⟩
  | .hbm, ⟨40, _⟩ => ⟨S_, .f32⟩
  | .hbm, ⟨41, _⟩ => ⟨S10000x16x16x1, .f32⟩
  | .hbm, ⟨42, _⟩ => ⟨S10000x16x16x1, .i1⟩
  | .hbm, ⟨43, _⟩ => ⟨S_, .f32⟩
  | .hbm, ⟨44, _⟩ => ⟨S10000x16x16x1, .f32⟩
  | .hbm, ⟨45, _⟩ => ⟨S10000x16x16x1, .f32⟩
  | .hbm, ⟨46, _⟩ => ⟨S10000x16x16x1, .f32⟩
  | .hbm, ⟨47, _⟩ => ⟨S10000x16x16x16, .f32⟩
  | .hbm, ⟨48, _⟩ => ⟨S1x1x1x16, .f32⟩
  | .hbm, ⟨49, _⟩ => ⟨S10000x16x16x16, .f32⟩
  | .hbm, ⟨50, _⟩ => ⟨S10000x16x16x16, .f32⟩
  | .hbm, ⟨51, _⟩ => ⟨S10000x16x16x16, .f32⟩
  | .hbm, ⟨52, _⟩ => ⟨S10000x16x16x16, .f32⟩
  | .hbm, ⟨53, _⟩ => ⟨S10000x16x16x16, .f32⟩
  | .hbm, ⟨54, _⟩ => ⟨S_, .f32⟩
  | .hbm, ⟨55, _⟩ => ⟨S10000x16x16, .f32⟩
  | .hbm, ⟨56, _⟩ => ⟨S10000x16x16x1, .f32⟩
  | .hbm, ⟨57, _⟩ => ⟨S_, .f32⟩
  | .hbm, ⟨58, _⟩ => ⟨S10000x16x16x1, .f32⟩
  | .hbm, ⟨59, _⟩ => ⟨S10000x16x16x1, .f32⟩
  | .hbm, ⟨60, _⟩ => ⟨S_, .i32⟩
  | .hbm, ⟨61, _⟩ => ⟨S_, .f32⟩
  | .hbm, ⟨62, _⟩ => ⟨S10000x16x16, .f32⟩
  | .hbm, ⟨63, _⟩ => ⟨S10000x16x16x1, .f32⟩
  | .hbm, ⟨64, _⟩ => ⟨S_, .f32⟩
  | .hbm, ⟨65, _⟩ => ⟨S10000x16x16x1, .f32⟩
  | .hbm, ⟨66, _⟩ => ⟨S10000x16x16x1, .f32⟩
  | .hbm, ⟨67, _⟩ => ⟨S10000x16x16x16, .f32⟩
  | .hbm, ⟨68, _⟩ => ⟨S10000x16x16x16, .f32⟩
  | .hbm, ⟨69, _⟩ => ⟨S10000x16x16x16, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S10000x16x16, .f32⟩
  | .hbm, ⟨75, _⟩ => ⟨S10000x16x16x1, .f32⟩
  | .hbm, ⟨76, _⟩ => ⟨S10000x16x16x1, .f32⟩
  | .hbm, ⟨77, _⟩ => ⟨S10000x16x16x1, .f32⟩
  | .hbm, ⟨78, _⟩ => ⟨S_, .f32⟩
  | .hbm, ⟨79, _⟩ => ⟨S_, .i1⟩
  | .hbm, ⟨80, _⟩ => ⟨S_, .f32⟩
  | .hbm, ⟨81, _⟩ => ⟨S_, .f32⟩
  | .hbm, ⟨82, _⟩ => ⟨S10000x16x16x1, .f32⟩
  | .hbm, ⟨83, _⟩ => ⟨S10000x16x16x1, .f32⟩
  | .hbm, ⟨84, _⟩ => ⟨S10000x16x16x16, .f32⟩
  | .hbm, ⟨85, _⟩ => ⟨S10000x16x16x16, .f32⟩
  | .hbm, ⟨86, _⟩ => ⟨S_, .f32⟩
  | .hbm, ⟨87, _⟩ => ⟨S10000x16x16x1, .f32⟩
  | .hbm, ⟨88, _⟩ => ⟨S10000x16x16x1, .f32⟩
  | .hbm, ⟨89, _⟩ => ⟨S10000x16x16x1, .f32⟩
  | .hbm, ⟨90, _⟩ => ⟨S10000x16x16x16, .f32⟩
  | .hbm, ⟨91, _⟩ => ⟨S10000x16x16x16, .f32⟩
  | .hbm, ⟨92, _⟩ => ⟨S1x1x1x16, .f32⟩
  | .hbm, ⟨93, _⟩ => ⟨S10000x16x16x16, .f32⟩
  | .hbm, ⟨94, _⟩ => ⟨S10000x16x16x16, .f32⟩
  | .hbm, ⟨95, _⟩ => ⟨S1x1x1x16, .f32⟩
  | .hbm, ⟨96, _⟩ => ⟨S10000x16x16x16, .f32⟩
  | .hbm, ⟨97, _⟩ => ⟨S10000x16x16x16, .f32⟩
  | .hbm, ⟨98, _⟩ => ⟨S_, .f32⟩
  | .hbm, ⟨99, _⟩ => ⟨S10000x16x16x16, .f32⟩
  | .hbm, ⟨100, _⟩ => ⟨S10000x16x16x16, .f32⟩
  | .hbm, ⟨101, _⟩ => ⟨S10000x16x16x16, .f32⟩
  | .hbm, ⟨102, _⟩ => ⟨S10000x16x16x16, .f32⟩
  | .hbm, ⟨103, _⟩ => ⟨S10000x16x16x16, .i1⟩
  | .hbm, ⟨104, _⟩ => ⟨S10000x16x16x16, .f32⟩
  | .hbm, ⟨105, _⟩ => ⟨S10000x16x16x16, .f32⟩
  | .hbm, ⟨106, _⟩ => ⟨S10000x16x16x16, .f32⟩
  | .hbm, ⟨107, _⟩ => ⟨S10000x16x16x16, .f32⟩
  | .hbm, ⟨108, _⟩ => ⟨S10000x16x16x16, .f32⟩
  | .hbm, ⟨109, _⟩ => ⟨S10000x16x16x16, .f32⟩
  | .hbm, ⟨110, _⟩ => ⟨S10000x16x16x16, .f32⟩
  | .hbm, ⟨111, _⟩ => ⟨S10000x16x16x16, .f32⟩
  | _, _ => ⟨S10000x16x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst : Ref sig .tc := ⟨.hbm, 40, rfl⟩
abbrev main_v9 : Ref sig .tc := ⟨.hbm, 41, rfl⟩
abbrev main_v10 : Ref sig .tc := ⟨.hbm, 42, rfl⟩
abbrev main_cst_0 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_1 : Ref sig .tc := ⟨.hbm, 54, rfl⟩
abbrev main_v21 : Ref sig .tc := ⟨.hbm, 55, rfl⟩
abbrev main_v22 : Ref sig .tc := ⟨.hbm, 56, rfl⟩
abbrev main_cst_2 : Ref sig .tc := ⟨.hbm, 57, rfl⟩
abbrev main_v23 : Ref sig .tc := ⟨.hbm, 58, rfl⟩
abbrev main_v24 : Ref sig .tc := ⟨.hbm, 59, rfl⟩
abbrev main_c : Ref sig .tc := ⟨.hbm, 60, rfl⟩
abbrev main_call2_cst : Ref sig .tc := ⟨.hbm, 61, rfl⟩
abbrev main_call2_v0 : Ref sig .tc := ⟨.hbm, 62, rfl⟩
abbrev main_call2_v1 : Ref sig .tc := ⟨.hbm, 63, rfl⟩
abbrev main_call2_cst_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_cst_1 : Ref sig .tc := ⟨.hbm, 71, rfl⟩
abbrev main_call2_v8 : Ref sig .tc := ⟨.hbm, 72, rfl⟩
abbrev main_call2_cst_2 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_cst_3 : Ref sig .tc := ⟨.hbm, 78, rfl⟩
abbrev main_call2_v13 : Ref sig .tc := ⟨.hbm, 79, rfl⟩
abbrev main_call2_cst_4 : Ref sig .tc := ⟨.hbm, 80, rfl⟩
abbrev main_call2_call0_v0 : Ref sig .tc := ⟨.hbm, 81, rfl⟩
abbrev main_call2_call0_v1 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_cst_3 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_call3_cst : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_v39 : Ref sig .tc := ⟨.hbm, 111, rfl⟩

abbrev nD : Nat := 1
abbrev τ : Topo := Topo.v7x

variable {F : FTy → Type} [FloatOps F]
-- ==== Proof.Words.lean ====
/-
  What the kernel's integer arithmetic comes to. Thirty-two tiles share 1250 blocks of 128 rows: tile `w` (sixteen times
  its core and its number there) takes forty blocks if `w < 2` and thirty-nine otherwise, one after another from `st`.
  Every offset, condition and side condition of a trip is a closed form in the trip's number.
-/
module

public import proofs.«01_k».proof.Defs
public import proofs.«01_k».proof.Proof.Gen.KernelIdeal.Skeleton

@[expose] public section

set_option maxRecDepth 100000

namespace Cert.Proof.Tile

open Cert.KernelIdeal Cert.KernelIdeal.Gen
open Idealize.ShloMosaic

/-- The tile's number among the thirty-two. -/
def wk (i : grid0.Coords) : ℕ := 16 * (i 0).val + (i 1).val
/-- How many blocks the tile takes. -/
def nn (i : grid0.Coords) : ℕ := if wk i < 2 then 40 else 39
/-- The tile's first block. -/
def st (i : grid0.Coords) : ℕ := if wk i < 2 then 40 * wk i else 39 * wk i + 2

theorem nn_pos (i : grid0.Coords) : 0 < nn i := by unfold nn; split <;> omega
theorem nn_le (i : grid0.Coords) : nn i ≤ 40 := by unfold nn; split <;> omega
theorem st_add_nn : ∀ i : grid0.Coords, st i + nn i ≤ 1250 := by decide +kernel

/-- The count of fetches started, before trip `k`. -/
def w6 (i : grid0.Coords) (k : ℕ) : BitVec 32 := BitVec.ofNat 32 (min (k + 1) (nn i))
/-- The count of write-backs finished, before trip `k`. -/
def w9 (k : ℕ) : BitVec 32 := BitVec.ofNat 32 (k - 1)
/-- The block about to be worked on, before trip `k`, back at zero after the last. -/
def w10 (i : grid0.Coords) (k : ℕ) : BitVec 32 := if k = nn i then 0#32 else BitVec.ofNat 32 k
/-- The five counters the loop carries, before trip `k`. -/
def canon (i : grid0.Coords) (k : ℕ) : BitVec 32 × BitVec 32 × BitVec 32 × BitVec 32 × BitVec 32 :=
  (w6 i k, BitVec.ofNat 32 k, BitVec.ofNat 32 k, w9 k, w10 i k)
/-- The tile's block count and first block, as words. -/
def v5w (i : grid0.Coords) : BitVec 32 := BitVec.ofNat 32 (nn i)
def v10w (i : grid0.Coords) : BitVec 32 := BitVec.ofNat 32 (st i)

theorem k0_cond1_eq : ∀ i : grid0.Coords, k0_cond1 i = 1#1 := by decide +kernel
theorem k0_cond2_eq : ∀ i : grid0.Coords, k0_cond2 i = 1#1 := by decide +kernel
theorem k0_cond18_eq : ∀ i : grid0.Coords, k0_cond18 i = 1#1 := by decide +kernel
/-- A tile makes as many trips as it has blocks, and the printed remainder loop none. -/
theorem k0_trips1 : ∀ i : grid0.Coords, (k0_t1_loop i).trips = nn i := by decide +kernel
theorem k0_trips2 : ∀ i : grid0.Coords, (k0_t2_loop i).trips = 0 := by decide +kernel
theorem k0_off2_val : ∀ i : grid0.Coords, k0_off2 i = ![0, 128 * (st i)] := by decide +kernel
theorem k0_cond3_eq : ∀ (i : grid0.Coords) (k : Fin (k0_t1_loop i).trips),
    k0_cond3 i k (BitVec.ofNat 32 k.val) = if k.val + 1 < nn i then 1#1 else 0#1 := by decide +kernel
theorem k0_cond4_eq : ∀ (i : grid0.Coords) (k : Fin (k0_t1_loop i).trips), k0_cond4 i k (BitVec.ofNat 32 k.val) = 1#1 := by decide +kernel
theorem k0_cond7_eq : ∀ (i : grid0.Coords) (k : Fin (k0_t1_loop i).trips), k0_cond7 i k (BitVec.ofNat 32 k.val) = 1#1 := by decide +kernel
theorem k0_cond9_eq : ∀ (i : grid0.Coords) (k : Fin (k0_t1_loop i).trips),
    k0_cond9 i k (BitVec.ofNat 32 k.val) = if k.val = 0 then 0#1 else 1#1 := by decide +kernel
theorem k0_off5_val : ∀ (i : grid0.Coords) (k : Fin (k0_t1_loop i).trips), k.val + 1 < nn i →
    k0_off5 i (BitVec.ofNat 32 k.val) = ![0, 128 * (st i + (k.val + 1))] := by decide +kernel
theorem k0_off13_val : ∀ (i : grid0.Coords) (k : Fin (k0_t1_loop i).trips),
    k0_off13 i (BitVec.ofNat 32 k.val) = ![128 * (st i + k.val), 0, 0] := by decide +kernel
theorem k0_off4_val : ∀ n : Fin 41, k0_off4 (BitVec.ofNat 32 n.val) = ![n.val % 2, 0, 0] := by decide +kernel
theorem k0_off6_val : ∀ n : Fin 41, k0_off6 (BitVec.ofNat 32 n.val) = ![n.val % 2] := by decide +kernel
theorem k0_off9_val : ∀ n : Fin 41, k0_off9 (BitVec.ofNat 32 n.val) = ![n.val % 2] := by decide +kernel
theorem k0_off10_val : ∀ n : Fin 41, k0_off10 (BitVec.ofNat 32 n.val) = ![n.val % 2, 0, 0, 0] := by decide +kernel
theorem k0_off11_val : ∀ n : Fin 41, k0_off11 (BitVec.ofNat 32 n.val) = ![n.val % 2, 0, 0] := by decide +kernel
theorem k0_off12_val : ∀ n : Fin 41, k0_off12 (BitVec.ofNat 32 n.val) = ![n.val % 2, 0, 0, 0] := by decide +kernel
theorem k0_off14_val : ∀ n : Fin 41, k0_off14 (BitVec.ofNat 32 n.val) = ![n.val % 2] := by decide +kernel
theorem k0_off17_val : ∀ n : Fin 41, k0_off17 (BitVec.ofNat 32 n.val) = ![n.val % 2] := by decide +kernel
theorem k0_off34_val : ∀ n : Fin 41, k0_off34 (BitVec.ofNat 32 n.val) = ![n.val % 2] := by decide +kernel
/-- The side conditions a trip assumes hold at the counters it finds. -/
theorem k0_chk1_all : ∀ (i : grid0.Coords) (k : Fin (k0_t1_loop i).trips),
    k0_chk1 i k (w6 i k.val) (BitVec.ofNat 32 k.val) (BitVec.ofNat 32 k.val) (w9 k.val) (BitVec.ofNat 32 k.val) := by decide +kernel
theorem k0_chk2_all : ∀ (i : grid0.Coords) (k : Fin (k0_t1_loop i).trips), k0_chk2 i (BitVec.ofNat 32 k.val) := by decide +kernel
theorem k0_chk3_all : ∀ (i : grid0.Coords) (k : Fin (k0_t1_loop i).trips), k0_chk3 i (BitVec.ofNat 32 k.val) := by decide +kernel
theorem k0_chk7_all : ∀ i : grid0.Coords, k0_chk7 i (w9 (nn i)) := by decide +kernel
theorem k0_chk8_all : ∀ i : grid0.Coords, k0_chk8 i (w10 i (nn i)) := by decide +kernel

end Cert.Proof.Tile
-- ==== Proof.Base.lean ====
/-
  The program as the launch theorem sees it, the ghost state the proof uses, and what a tile's copies move: the blocks
  of 128 row numbers, the two slots they land in, the two slots the gathered rows land in, and the blocks of the result.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.ViewIndex
public import Idealize.ShloMosaic.Lib.Tactic

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program and the ghost state -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's handshakes, the TensorCore pipeline's cells, the counters of the tiles' own copies. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## Blocks and slots -/

/-- The table and the row numbers, as a tile names them. -/
abbrev tV : Memref sig .scVector .hbm S10000x2x128 .f32 := Memref.whole main_v55_scv
abbrev iV : Memref sig .scVector .hbm S1x160000 .i32 := Memref.whole main_v58_scv

theorem inb_iSlot (p : Fin 2) : ∀ a, (![p.val, 0, 0] : Fin 3 → ℕ) a + S1x1x128.size a ≤ S2x1x128.size a := by
  revert p; decide
theorem inb_qSlot (p : Fin 2) : ∀ a, (![p.val, 0, 0, 0] : Fin 4 → ℕ) a + S1x128x2x128.size a ≤ S2x128x2x128.size a := by
  revert p; decide
theorem inb_sem (p : Fin 2) : ∀ a, (![p.val] : Fin 1 → ℕ) a + S1.size a ≤ S2.size a := by
  revert p; decide
theorem inb_iBlk {b : ℕ} (h : b < 1250) : ∀ a, (![0, 128 * b] : Fin 2 → ℕ) a + S1x128.size a ≤ S1x160000.size a := by
  intro a
  match a with
  | 0 => exact Nat.le_refl 1
  | 1 => show 128 * b + 128 ≤ 160000; omega
theorem inb_oBlk {b : ℕ} (h : b < 1250) : ∀ a, (![128 * b, 0, 0] : Fin 3 → ℕ) a + S128x2x128.size a ≤ S160000x2x128.size a := by
  intro a
  match a with
  | 0 => show 128 * b + 128 ≤ 160000; omega
  | 1 => exact Nat.le_refl 2
  | 2 => exact Nat.le_refl 128

/-- Slot `p` of the row numbers' buffer. -/
abbrev iSlot (A : Memref sig .scVector .vmem S2x1x128 .i32) (p : Fin 2) : Memref sig .scVector .vmem S1x128 .i32 :=
  (A.slice (Rect.unit (s := S2x1x128) ![p.val, 0, 0] S1x1x128.size (inb_iSlot p)) (fun _ => rfl)).squeeze S1x128 squeezes_S1x1x128_S1x128
/-- Slot `p` of the gathered rows' buffer. -/
abbrev qSlot (B : Memref sig .scVector .vmem S2x128x2x128 .f32) (p : Fin 2) : Memref sig .scVector .vmem S128x2x128 .f32 :=
  (B.slice (Rect.unit (s := S2x128x2x128) ![p.val, 0, 0, 0] S1x128x2x128.size (inb_qSlot p)) (fun _ => rfl)).squeeze S128x2x128 squeezes_S1x128x2x128_S128x2x128
/-- Semaphore `p` of a pair. -/
abbrev semAt (s : DmaSems sig S2) (p : Fin 2) : DmaSem sig :=
  ((s.slice (Rect.unit (s := S2) ![p.val] S1.size (inb_sem p))).squeeze S_ squeezes_S1_S_).sem
/-- Block `b` of the row numbers. -/
abbrev iBlk {b : ℕ} (h : b < 1250) : Memref sig .scVector .hbm S1x128 .i32 :=
  iV.slice (Rect.unit (s := S1x160000) ![0, 128 * b] S1x128.size (inb_iBlk h)) (fun _ => rfl)
/-- Block `b` of the result. -/
abbrev oBlk (O : Memref sig .scVector .hbm S160000x2x128 .f32) {b : ℕ} (h : b < 1250) : Memref sig .scVector .hbm S128x2x128 .f32 :=
  O.slice (Rect.unit (s := S160000x2x128) ![128 * b, 0, 0] S128x2x128.size (inb_oBlk h)) (fun _ => rfl)
/-- The whole table, as the gather names it. -/
abbrev tAll : Memref sig .scVector .hbm S10000x2x128 .f32 :=
  tV.slice (Rect.unit (s := S10000x2x128) ![0, 0, 0] S10000x2x128.size inb_S10000x2x128_S10000x2x128_0_0_0) (fun _ => rfl)
/-- The list a slot holds, as the gather names it. -/
abbrev offs (A : Memref sig .scVector .vmem S2x1x128 .i32) (p : Fin 2) : Memref sig .scVector .vmem S128 .i32 :=
  ((iSlot A p).slice (Rect.unit (s := S1x128) ![0, 0] S1x128.size inb_S1x128_S1x128_0_0) (fun _ => rfl)).squeeze S128 squeezes_S1x128_S128

/-- The elements of block `b` of the result, named without a bound on `b`. -/
def oSet (O : Memref sig .scVector .hbm S160000x2x128 .f32) (b : ℕ) : Finset O.view.ty.Idx :=
  O.view.setOn (Finset.univ.filter fun x : S160000x2x128.Idx => (x 0).val / 128 = b)

theorem oSet_eq (O : Memref sig .scVector .hbm S160000x2x128 .f32) {b : ℕ} (h : b < 1250) : oSet O b = (oBlk O h).view.set := by
  show _ = (O.view.slice (Rect.unit (s := S160000x2x128) ![128 * b, 0, 0] S128x2x128.size (inb_oBlk h))).set
  rw [View.set_slice]
  refine congrArg (Finset.map O.view.emb) (Finset.ext fun x => ?_)
  rw [Finset.mem_filter, Rect.mem_set_unit]
  have h1 : (x 1).val < 2 := (x 1).isLt
  have h2 : (x 2).val < 128 := (x 2).isLt
  constructor
  · rintro ⟨-, e⟩ a
    match a with
    | 0 => show 128 * b ≤ (x 0).val ∧ (x 0).val < 128 * b + 128; omega
    | 1 => exact ⟨Nat.zero_le _, by show (x 1).val < 0 + 2; omega⟩
    | 2 => exact ⟨Nat.zero_le _, by show (x 2).val < 0 + 128; omega⟩
  · intro e
    have e0 : 128 * b ≤ (x 0).val ∧ (x 0).val < 128 * b + 128 := e 0
    exact ⟨Finset.mem_univ _, by omega⟩

/-- A rectangle at offset zero of the view's own size is the view. -/
theorem set_slice_full {sp : Space} {s : Shape} {e : EltTy} (v : View sig .scVector sp s e) (off : Fin s.rank → ℕ)
    (h0 : ∀ a, off a = 0) (inb : ∀ a, off a + s.size a ≤ s.size a) : (v.slice (Rect.unit off s.size inb)).set = v.set := by
  rw [View.set_slice]
  have : (Rect.unit off s.size inb).set = Finset.univ := by
    ext x
    simp only [Rect.mem_set_unit, Finset.mem_univ, iff_true]
    intro a
    rw [h0 a]
    exact ⟨Nat.zero_le _, by simpa using (x a).isLt⟩
  rw [this]; rfl

theorem tAll_set : tAll.view.set = Finset.univ := by
  show ((tV).view.slice _).set = _
  rw [set_slice_full (tV).view ![0, 0, 0] (by decide)]
  exact View.set_whole _

theorem offs_set (A : Memref sig .scVector .vmem S2x1x128 .i32) (p : Fin 2) : (offs A p).view.set = (iSlot A p).view.set := by
  show (((iSlot A p).view.slice _).reshape S128 _).set = _
  rw [View.set_reshape, set_slice_full (iSlot A p).view ![0, 0] (by decide)]

/-! ## The words -/

/-- Row number `n` of the list, with its two spellings as one function of a natural number. -/
def wordAt (fI : S1x160000.Idx → BitVec 32) (n : ℕ) : BitVec 32 := if h : n < 160000 then fI (ix2 (0 : Fin 1) ⟨n, h⟩) else 0#32

/-- The rows gathered: row `x 0` is the table's row named by the list at `x 0`. -/
def gath (fT : S10000x2x128.Idx → F .f32) (fI : S1x160000.Idx → BitVec 32) : S160000x2x128.Idx → F .f32 := fun x =>
  fT (ix3 (⟨(wordAt fI (x 0).val).toNat % 10000, Nat.mod_lt _ (by decide)⟩ : Fin 10000) (⟨(x 1).val, (x 1).isLt⟩ : Fin 2) (⟨(x 2).val, (x 2).isLt⟩ : Fin 128))

theorem wordAt_of {fI : S1x160000.Idx → BitVec 32} (j : S1x160000.Idx) {n : ℕ} (h : (j 1).val = n) : fI j = wordAt fI n := by
  subst h
  have h1 : (j 1).val < 160000 := (j 1).isLt
  unfold wordAt
  rw [dif_pos h1]
  congr 1
  funext a
  match a with
  | 0 => exact Subsingleton.elim (α := Fin 1) _ _
  | 1 => rfl

theorem reshape_S128_S1x128 (h : S128.numel = S1x128.numel) (x : S128.Idx) : ((Shape.reshapeEquiv h x : S1x128.Idx) 1).val = (x 0).val := by
  have e := Shape.rowMajor_reshapeEquiv h x
  rw [Shape.rowMajor_val_two, Shape.rowMajor_val_one] at e
  have h0 : ((Shape.reshapeEquiv h x : S1x128.Idx) 0).val < 1 := ((Shape.reshapeEquiv h x : S1x128.Idx) 0).isLt
  have e' : ((Shape.reshapeEquiv h x : S1x128.Idx) 0).val * 128 + ((Shape.reshapeEquiv h x : S1x128.Idx) 1).val = (x 0).val := e
  omega

end Cert.Proof.Tile
-- ==== Proof.Steps.lean ====
/-
  A tile's six memory operations, each proved once over the buffers it names: fetch a block of row numbers and wait for
  it, gather the rows they name and wait for them, write the rows back and wait for that.
-/
module

public import proofs.«01_k».proof.Proof.Base

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (c : Fin τ.nSC) (j : Fin τ.nSub)
variable (A : Memref sig .scVector .vmem S2x1x128 .i32) (B : Memref sig .scVector .vmem S2x128x2x128 .f32)
variable (O : Memref sig .scVector .hbm S160000x2x128 .f32) (sI sQ : DmaSems sig S2)
variable (fT : Buf (Elt F) ((tV).view.loc (V d c j))) (fI : Buf (Elt F) ((iV).view.loc (V d c j)))
variable (gO : Buf (Elt F) (O.view.loc (V d c j)))

/-! ## What a slot holds -/

/-- Slot `p` of the row numbers' buffer, at rest: its elements, a share of the list, its semaphore at zero. -/
def IFree (q : PosShare TreeShare) (p : Fin 2) : sProp 𝕄 :=
  iprop(∃ f, ((iSlot A p).view.loc (V d c j) ↦[(iSlot A p).view.set]{fullShare} f)
    ∗ ((iV).view.loc (V d c j) ↦{q} fI) ∗ semVal (V d c j, .dma (semAt sI p)) 0)

/-- The same with block `b` of the list in it. -/
def IHas (q : PosShare TreeShare) (p : Fin 2) (b : ℕ) : sProp 𝕄 :=
  iprop(∃ f, ⌜∀ x : S1x128.Idx, (iSlot A p).view.read (Elt F) f x = wordAt fI (128 * b + (x 1).val)⌝
    ∗ ((iSlot A p).view.loc (V d c j) ↦[(iSlot A p).view.set]{fullShare} f)
    ∗ ((iV).view.loc (V d c j) ↦{q} fI) ∗ semVal (V d c j, .dma (semAt sI p)) 0)

/-- The same with block `b` on its way. -/
def IFly (q : PosShare TreeShare) (p : Fin 2) (b : ℕ) : sProp 𝕄 :=
  iprop(∃ hb : b < 1250, Transfers.Flight countersEmb (V d c j) (.dma (semAt sI p)) (default : HIx 1) (iSlot A p).view.dmaCredit
      iprop((∃ f, ⌜∀ x : S1x128.Idx, (iSlot A p).view.read (Elt F) f x = wordAt fI (128 * b + (x 1).val)⌝
          ∗ ((iSlot A p).view.loc (V d c j) ↦[(iSlot A p).view.set]{fullShare} f))
        ∗ ((iBlk hb).view.loc (V d c j) ↦[(iBlk hb).view.set]{q} fI))
    ∗ ((iV).view.loc (V d c j) ↦[Finset.univ \ (iBlk hb).view.set]{q} fI))

/-- Slot `p` of the gathered rows' buffer, at rest. -/
def QFree (p : Fin 2) : sProp 𝕄 :=
  iprop(∃ f, ((qSlot B p).view.loc (V d c j) ↦[(qSlot B p).view.set]{fullShare} f) ∗ semVal (V d c j, .dma (semAt sQ p)) 0)

/-- The same with block `b` of the gathered rows in it. -/
def QHas (p : Fin 2) (b : ℕ) : sProp 𝕄 :=
  iprop(∃ f, ⌜∀ (x : S128x2x128.Idx) (y : S160000x2x128.Idx), (y 0).val = 128 * b + (x 0).val → (y 1).val = (x 1).val → (y 2).val = (x 2).val →
      (qSlot B p).view.read (Elt F) f x = gath fT fI y⌝
    ∗ ((qSlot B p).view.loc (V d c j) ↦[(qSlot B p).view.set]{fullShare} f) ∗ semVal (V d c j, .dma (semAt sQ p)) 0)

/-- Block `b` of the result, at contents `f`. -/
def OPts (b : ℕ) (f : Buf (Elt F) (O.view.loc (V d c j))) : sProp 𝕄 := O.view.loc (V d c j) ↦[oSet O b]{fullShare} f

/-- The slot with block `b` on its way out. -/
def QFly (p : Fin 2) (b : ℕ) : sProp 𝕄 :=
  Transfers.Flight countersEmb (V d c j) (.dma (semAt sQ p)) (default : HIx 1) (oBlk O (b := 0) (by omega)).view.dmaCredit
    iprop(OPts d c j O b gO ∗ ∃ f, ((qSlot B p).view.loc (V d c j) ↦[(qSlot B p).view.set]{fullShare} f))

/-- What the tile owes, some waits past those of the start recorded. -/
def Ow (Oc : CellTallies nD τ sig (HIx 1)) (W : Waits sig (HIx 1)) : sProp 𝕄 :=
  iprop(∃ W', ⌜∀ p ∈ W', p ∈ W ∨ p.2 = none⌝ ∗ owes (V d c j) Oc W')

/-! ## The row numbers -/

theorem readI {b : ℕ} (hb : b < 1250) (x : S1x128.Idx) : (iBlk hb).view.read (Elt F) fI x = wordAt fI (128 * b + (x 1).val) := by
  refine (View.read_apply _ _).trans ((cast_eq _ _).trans (wordAt_of _ ?_))
  show 128 * b + 1 * (x 1).val = _
  omega

variable {α : Type} {Q : α → sProp (MT nD τ sig (HIx 1) (Elt F) ℕ UU ℕ)}

theorem issueI {o4 : Fin 3 → ℕ} {o5 : Fin 2 → ℕ} {o6 : Fin 1 → ℕ}
    {p4 : ∀ a, o4 a + S1x1x128.size a ≤ S2x1x128.size a} {p5 : ∀ a, o5 a + S1x128.size a ≤ S1x160000.size a}
    {p6 : ∀ a, o6 a + S1.size a ≤ S2.size a}
    {hs : ((iV).slice (Rect.unit (s := S1x160000) o5 S1x128.size p5) (fun _ => rfl)).view.WordExact}
    {hd : ((A.slice (Rect.unit (s := S2x1x128) o4 S1x1x128.size p4) (fun _ => rfl)).squeeze S1x128 squeezes_S1x1x128_S1x128).view.WordExact}
    {ht : DmaTarget.Typed (nD := nD) (.hbm) (.dma ((sI.slice (Rect.unit (s := S2) o6 S1.size p6)).squeeze S_ squeezes_S1_S_).sem)
      (.here ((A.slice (Rect.unit (s := S2x1x128) o4 S1x1x128.size p4) (fun _ => rfl)).squeeze S1x128 squeezes_S1x1x128_S1x128) : DmaTarget nD τ sig (V d c j).2 .vmem S1x128 .i32)}
    {k : PUnit → Prog (TpuEff nD τ sig (Elt F) Λ₀ (V d c j).2) α} (q : PosShare TreeShare) (p : Fin 2) (b : ℕ)
    (e4 : o4 = ![p.val, 0, 0]) (e5 : o5 = ![0, 128 * b]) (e6 : o6 = ![p.val]) (hb : b < 1250) :
    IFree d c j A sI fI q p ⊢ iprop((IFly d c j A sI fI q p b -∗ wp frame (wpE (defs₀ (F := F)) 𝒱₀ (V d c j) none) Set.univ (k ⟨⟩) Q) -∗
      wp frame (wpE (defs₀ (F := F)) 𝒱₀ (V d c j) none) Set.univ
        (Prog.lift (.enqueueDma ((iV).slice (Rect.unit (s := S1x160000) o5 S1x128.size p5) (fun _ => rfl))
              (.here ((A.slice (Rect.unit (s := S2x1x128) o4 S1x1x128.size p4) (fun _ => rfl)).squeeze S1x128 squeezes_S1x1x128_S1x128))
              (.dma ((sI.slice (Rect.unit (s := S2) o6 S1.size p6)).squeeze S_ squeezes_S1_S_).sem) hs hd ht) >>= k) Q) := by
  subst e4 e5 e6
  unfold IFree
  iintro ⟨%f, Hs, Hi, Hv⟩ Hk
  ihave Hi' := (pointsTo_split_subset (q := q) (f := fI) (S := Finset.univ) (Finset.subset_univ (iBlk hb).view.set)).1 $$ Hi
  icases Hi' with ⟨Hi, Hr⟩
  iapply (Transfers.wp_dmaLocal countersEmb 𝒱₀ (V d c j) none (default : HIx 1) (iSlot A p).view.dmaCredit rfl
    (View.dmaCredit_pos _ (by decide)) (Finset.Subset.refl _)) $$ [Hi Hs Hv]
  · isplitl [Hi]; · iexact Hi
    isplitl [Hs]; · iexact Hs
    iexact Hv
  iintro Hfl
  iapply Hk
  unfold IFly
  iexists hb
  isplitl [Hfl]
  · iapply (Transfers.Flight_mono countersEmb (V d c j) ?_) $$ Hfl
    iintro ⟨H1, H2⟩
    isplitl [H1]
    · iexists _
      isplitr
      rotate_left
      · iexact H1
      · ipureintro
        intro x
        rw [View.read_write_univ]
        exact readI d c j fI hb x
    · iexact H2
  · iexact Hr

theorem waitI {o7 : Fin 3 → ℕ} {o8 : Fin 2 → ℕ} {o9 : Fin 1 → ℕ}
    {p7 : ∀ a, o7 a + S1x1x128.size a ≤ S2x1x128.size a} {p8 : ∀ a, o8 a + S1x128.size a ≤ S1x160000.size a}
    {p9 : ∀ a, o9 a + S1.size a ≤ S2.size a}
    {hs : ((iV).slice (Rect.unit (s := S1x160000) o8 S1x128.size p8) (fun _ => rfl)).view.WordExact}
    {hd : ((A.slice (Rect.unit (s := S2x1x128) o7 S1x1x128.size p7) (fun _ => rfl)).squeeze S1x128 squeezes_S1x1x128_S1x128).view.WordExact}
    {k : PUnit → Prog (TpuEff nD τ sig (Elt F) Λ₀ (V d c j).2) α} (q : PosShare TreeShare) (p : Fin 2) (b : ℕ)
    {Oc : CellTallies nD τ sig (HIx 1)} {W : Waits sig (HIx 1)} (hO : ∀ g, Oc g none = 0)
    (e9 : o9 = ![p.val]) :
    iprop(levAts (K (F := F)).L (K (F := F)).lev ∗ IFly d c j A sI fI q p b ∗ Ow d c j Oc W) ⊢
      iprop((IHas d c j A sI fI q p b ∗ Ow d c j Oc W -∗ wp frame (wpE (defs₀ (F := F)) 𝒱₀ (V d c j) none) Set.univ (k ⟨⟩) Q) -∗
      wp frame (wpE (defs₀ (F := F)) 𝒱₀ (V d c j) none) Set.univ
        (Prog.lift (.waitDma2 ((sI.slice (Rect.unit (s := S2) o9 S1.size p9)).squeeze S_ squeezes_S1_S_).sem
              ((iV).slice (Rect.unit (s := S1x160000) o8 S1x128.size p8) (fun _ => rfl))
              ((A.slice (Rect.unit (s := S2x1x128) o7 S1x1x128.size p7) (fun _ => rfl)).squeeze S1x128 squeezes_S1x1x128_S1x128) hs hd) >>= k) Q) := by
  subst e9
  unfold IFly Ow
  iintro ⟨#Hlv, ⟨%hb, Hfl, Hr⟩, %W', %hW, HO⟩ Hk
  ihave Hmw := (show levAts (K (F := F)).L (K (F := F)).lev ⊢ Transfers.MayWaits (V d c j) (default : HIx 1) Oc from
    (K (F := F)).mayWaits_none (thr := V d c j) hO) $$ Hlv
  iapply (Transfers.wp_waitLocalO countersEmb 𝒱₀ (V d c j) none (default : HIx 1) rfl) $$ [Hfl HO]
  · isplitl [Hfl]; · iexact Hfl
    isplitl [HO]; · iexact HO
    iapply (Transfers.MayWaits.elim (SemLoc.dma (semAt sI p))) $$ Hmw
  iintro ⟨⟨⟨%f, %hf, Hs⟩, Hi⟩, Hv, HO⟩
  iapply Hk
  isplitl [Hs Hi Hr Hv]
  · unfold IHas
    iexists f
    isplitr; · ipureintro; exact hf
    isplitl [Hs]; · iexact Hs
    isplitl [Hi Hr]
    · iapply (pointsTo_split_subset (q := q) (f := fI) (S := Finset.univ) (Finset.subset_univ (iBlk hb).view.set)).2
      isplitl [Hi] <;> iassumption
    · iexact Hv
  · iexists (insert (SemLoc.dma (semAt sI p), (default : HIx 1)) W')
    isplitr
    · ipureintro
      intro x hx
      rcases Finset.mem_insert.mp hx with e | e
      · right; rw [e]; rfl
      · exact hW x e
    · iexact HO

/-! ## The gather -/

/-- Every row number is a row of the table. -/
abbrev InRange (fI : S1x160000.Idx → BitVec 32) : Prop := ∀ i, (fI i).toNat < 10000

theorem wordAt_lt {g : S1x160000.Idx → BitVec 32} (h : InRange g) (n : ℕ) : (wordAt g n).toNat < 10000 := by
  unfold wordAt
  split
  · exact h _
  · decide

theorem readOffs {p : Fin 2} {b : ℕ} {f : Buf (Elt F) ((iSlot A p).view.loc (V d c j))}
    (hf : ∀ x : S1x128.Idx, (iSlot A p).view.read (Elt F) f x = wordAt fI (128 * b + (x 1).val)) (x : S128.Idx) :
    (offs A p).view.read (Elt F) f x = wordAt fI (128 * b + (x 0).val) := by
  refine (hf _).trans ?_
  congr 2
  refine Eq.trans ?_ (reshape_S128_S1x128 squeezes_S1x128_S128.numel_eq x)
  show 0 + 1 * _ = _
  rw [Nat.zero_add, Nat.one_mul]
  rfl

/-- What the gather lands: block `b` of the gathered rows. -/
theorem readGather (hg : S10000x2x128.Gathers 0 S128x2x128) (hn : S128.numel = S128x2x128.size hg.axis') {p : Fin 2} {b : ℕ}
    {f : Buf (Elt F) ((iSlot A p).view.loc (V d c j))}
    (hf : ∀ x : S1x128.Idx, (iSlot A p).view.read (Elt F) f x = wordAt fI (128 * b + (x 1).val))
    (hin : ∀ x, ((offs A p).view.read (Elt F) f x).toNat < S10000x2x128.size hg.axis) (x : S128x2x128.Idx) (y : S160000x2x128.Idx)
    (h0 : (y 0).val = 128 * b + (x 0).val) (h1 : (y 1).val = (x 1).val) (h2 : (y 2).val = (x 2).val) (hpre : InRange fI) :
    SparseCore.gatherPayload (F := F) hg ((tAll).view.read (Elt F) fT) (SparseCore.rows ((offs A p).view.read (Elt F) f) hn hin) x
      = gath fT fI y := by
  refine (View.read_apply _ _).trans ((cast_eq _ _).trans ?_)
  unfold gath
  refine congrArg fT (funext fun a => Fin.ext ?_)
  match a with
  | ⟨0, _⟩ =>
    show 0 + 1 * _ = _
    rw [Nat.zero_add, Nat.one_mul]
    refine Eq.trans (congrArg Fin.val (Shape.Gathers.idx_axis hg _ x)) ?_
    show ((offs A p).view.read (Elt F) f (S128.rowMajor.symm _)).toNat = (wordAt fI ((y 0).val)).toNat % 10000
    rw [readOffs d c j A fI hf, Nat.mod_eq_of_lt (wordAt_lt hpre _)]
    congr 2
    have e : (S128.rowMajor.symm (((x hg.axis').cast hn.symm : Fin S128.numel)) 0).val = (x 0).val := by
      rw [← Shape.rowMajor_val_one, Equiv.apply_symm_apply]; rfl
    rw [h0, e]
  | ⟨1, _⟩ =>
    show 0 + 1 * _ = _
    rw [Nat.zero_add, Nat.one_mul]
    refine Eq.trans (Shape.Gathers.idx_of_ne hg _ x _ Nat.one_ne_zero) ?_
    exact h1.symm
  | ⟨2, _⟩ =>
    show 0 + 1 * _ = _
    rw [Nat.zero_add, Nat.one_mul]
    refine Eq.trans (Shape.Gathers.idx_of_ne hg _ x _ (show (2 : ℕ) ≠ 0 by decide)) ?_
    exact h2.symm

/-- The gather of result block `bO`, whose list is block `bI`, on its way. -/
def GFly (q qt : PosShare TreeShare) (s4 : DmaSem sig) (p : Fin 2) (bI bO : ℕ) (p' : Fin 2) : sProp 𝕄 :=
  iprop(Transfers.Flight countersEmb (V d c j) (.dma s4) (default : HIx 1) (qSlot B p').view.dmaCredit
      iprop((∃ f, ⌜∀ (x : S128x2x128.Idx) (y : S160000x2x128.Idx), (y 0).val = 128 * bO + (x 0).val → (y 1).val = (x 1).val → (y 2).val = (x 2).val →
          (qSlot B p').view.read (Elt F) f x = gath fT fI y⌝ ∗ ((qSlot B p').view.loc (V d c j) ↦[(qSlot B p').view.set]{fullShare} f))
        ∗ ((tV).view.loc (V d c j) ↦{qt} fT)
        ∗ ∃ f, ⌜∀ x : S1x128.Idx, (iSlot A p).view.read (Elt F) f x = wordAt fI (128 * bI + (x 1).val)⌝
            ∗ ((iSlot A p).view.loc (V d c j) ↦[(iSlot A p).view.set]{fullShare} f))
    ∗ ((iV).view.loc (V d c j) ↦{q} fI) ∗ semVal (V d c j, .dma (semAt sI p)) 0 ∗ semVal (V d c j, .dma (semAt sQ p')) 0)

theorem issueG {o10 : Fin 4 → ℕ} {o11 : Fin 3 → ℕ}
    {p10 : ∀ a, o10 a + S1x128x2x128.size a ≤ S2x128x2x128.size a} {p11 : ∀ a, o11 a + S1x1x128.size a ≤ S2x1x128.size a}
    {hp : (V d c j).2.kind = .scVector} {hg : S10000x2x128.Gathers 0 S128x2x128} {hn : S128.numel = S128x2x128.size hg.axis'} {s4 : DmaSem sig}
    {hsrc : (tAll).view.WordExact} {he : EltTy.f32.bits = 32} {hsp : Space.hbm = .hbm ∨ Space.hbm = .shared} {hr : S10000x2x128.StreamRows 0}
    {k : PUnit → Prog (TpuEff nD τ sig (Elt F) Λ₀ (V d c j).2) α} (q qt : PosShare TreeShare) (p p' : Fin 2) (bI bO : ℕ)
    (hcr : ∀ p' : Fin 2, ∑ r, ((qSlot B p').slice (S128x2x128.rowRect hg.axis' r) (S128x2x128.stride_rowRect hg.axis' r)).view.dmaCredit
      = (qSlot B p').view.dmaCredit)
    (hpre : InRange fI) (e10 : o10 = ![p'.val, 0, 0, 0]) (e11 : o11 = ![p.val, 0, 0]) (hb : bI = bO) :
    iprop(IHas d c j A sI fI q p bI ∗ QFree d c j B sQ p' ∗ ((tV).view.loc (V d c j) ↦{qt} fT) ∗ semVal (V d c j, .dma s4) 0) ⊢
      iprop((GFly d c j A B sI sQ fT fI q qt s4 p bI bO p' -∗ wp frame (wpE (defs₀ (F := F)) 𝒱₀ (V d c j) none) Set.univ (k ⟨⟩) Q) -∗
      wp frame (wpE (defs₀ (F := F)) 𝒱₀ (V d c j) none) Set.univ
        (SparseCore.enqueueIndirectGather hp tAll
            ((B.slice (Rect.unit (s := S2x128x2x128) o10 S1x128x2x128.size p10) (fun _ => rfl)).squeeze S128x2x128 squeezes_S1x128x2x128_S128x2x128) hg
            ((((A.slice (Rect.unit (s := S2x1x128) o11 S1x1x128.size p11) (fun _ => rfl)).squeeze S1x128 squeezes_S1x1x128_S1x128).slice
              (Rect.unit (s := S1x128) ![0, 0] S1x128.size inb_S1x128_S1x128_0_0) (fun _ => rfl)).squeeze S128 squeezes_S1x128_S128)
            hn s4 hsrc he hsp hr >>= k) Q) := by
  subst e10 e11 hb
  unfold IHas QFree
  iintro ⟨⟨%fi, %hfi, Hs, Hi, Hv⟩, ⟨%fq, Hq, Hvq⟩, Ht, H4⟩ Hk
  have hin : ∀ x, ((offs A p).view.read (Elt F) fi x).toNat < S10000x2x128.size hg.axis := fun x => by
    rw [readOffs d c j A fI hfi]; exact wordAt_lt hpre _
  iapply (SparseCore.wp_indirectGatherLocal (F := F) (src := tAll) (dst := qSlot B p') (offs := offs A p) countersEmb 𝒱₀ (V d c j) none (default : HIx 1) _ (hcr p') (by decide) hin)
    $$ [Hs Hq Ht H4]
  · isplitl [Ht]; · rw [tAll_set]; iexact Ht
    isplitl [Hq]; · iexact Hq
    isplitl [Hs]; · rw [offs_set]; iexact Hs
    iexact H4
  iintro Hfl
  iapply Hk
  unfold GFly
  isplitl [Hfl]
  · iapply (Transfers.Flight_mono countersEmb (V d c j) ?_) $$ Hfl
    rw [tAll_set, offs_set]
    iintro ⟨H1, H2, H3⟩
    isplitl [H1]
    · iexists _
      isplitr
      rotate_left
      · iexact H1
      · ipureintro
        intro x y h0 h1 h2
        rw [View.read_write_univ]
        exact readGather d c j A fT fI hg hn hfi hin x y h0 h1 h2 hpre
    isplitl [H2]; · iexact H2
    iexists fi
    isplitr; · ipureintro; exact hfi
    iexact H3
  · isplitl [Hi]; · iexact Hi
    isplitl [Hv]; · iexact Hv
    iexact Hvq

theorem waitG {o10 : Fin 4 → ℕ} {p10 : ∀ a, o10 a + S1x128x2x128.size a ≤ S2x128x2x128.size a} {s4 : DmaSem sig}
    {hs : (tAll).view.WordExact}
    {hd : ((B.slice (Rect.unit (s := S2x128x2x128) o10 S1x128x2x128.size p10) (fun _ => rfl)).squeeze S128x2x128 squeezes_S1x128x2x128_S128x2x128).view.WordExact}
    {k : PUnit → Prog (TpuEff nD τ sig (Elt F) Λ₀ (V d c j).2) α} (q qt : PosShare TreeShare) (p p' : Fin 2) (bI bO : ℕ)
    {Oc : CellTallies nD τ sig (HIx 1)} {W : Waits sig (HIx 1)} (hO : ∀ g, Oc g none = 0) :
    iprop(levAts (K (F := F)).L (K (F := F)).lev ∗ GFly d c j A B sI sQ fT fI q qt s4 p bI bO p' ∗ Ow d c j Oc W) ⊢
      iprop((IFree d c j A sI fI q p ∗ QHas d c j B sQ fT fI p' bO ∗ ((tV).view.loc (V d c j) ↦{qt} fT) ∗ semVal (V d c j, .dma s4) 0
          ∗ Ow d c j Oc W -∗ wp frame (wpE (defs₀ (F := F)) 𝒱₀ (V d c j) none) Set.univ (k ⟨⟩) Q) -∗
      wp frame (wpE (defs₀ (F := F)) 𝒱₀ (V d c j) none) Set.univ
        (SparseCore.waitIndirectGather s4 tAll
            ((B.slice (Rect.unit (s := S2x128x2x128) o10 S1x128x2x128.size p10) (fun _ => rfl)).squeeze S128x2x128 squeezes_S1x128x2x128_S128x2x128) hs hd >>= k) Q) := by
  unfold GFly Ow
  iintro ⟨#Hlv, ⟨Hfl, Hi, Hv, Hvq⟩, %W', %hW, HO⟩ Hk
  ihave Hmw := (show levAts (K (F := F)).L (K (F := F)).lev ⊢ Transfers.MayWaits (V d c j) (default : HIx 1) Oc from
    (K (F := F)).mayWaits_none (thr := V d c j) hO) $$ Hlv
  iapply (Transfers.wp_waitLocalO countersEmb 𝒱₀ (V d c j) none (default : HIx 1) rfl) $$ [Hfl HO]
  · isplitl [Hfl]; · iexact Hfl
    isplitl [HO]; · iexact HO
    iapply (Transfers.MayWaits.elim (SemLoc.dma s4)) $$ Hmw
  iintro ⟨⟨⟨%fq, %hfq, Hq⟩, Ht, %fi, %hfi, Hs⟩, H4, HO⟩
  iapply Hk
  isplitl [Hs Hi Hv]
  · unfold IFree
    iexists fi
    isplitl [Hs]; · iexact Hs
    isplitl [Hi]; · iexact Hi
    iexact Hv
  isplitl [Hq Hvq]
  · unfold QHas
    iexists fq
    isplitr; · ipureintro; exact hfq
    isplitl [Hq]; · iexact Hq
    iexact Hvq
  isplitl [Ht]; · iexact Ht
  isplitl [H4]; · iexact H4
  iexists (insert (SemLoc.dma s4, (default : HIx 1)) W')
  isplitr
  · ipureintro
    intro x hx
    rcases Finset.mem_insert.mp hx with e | e
    · right; rw [e]; rfl
    · exact hW x e
  · iexact HO

/-! ## The way out -/

theorem issueO {o12 : Fin 4 → ℕ} {o13 : Fin 3 → ℕ} {o14 : Fin 1 → ℕ}
    {p12 : ∀ a, o12 a + S1x128x2x128.size a ≤ S2x128x2x128.size a} {p13 : ∀ a, o13 a + S128x2x128.size a ≤ S160000x2x128.size a}
    {p14 : ∀ a, o14 a + S1.size a ≤ S2.size a}
    {hs : ((B.slice (Rect.unit (s := S2x128x2x128) o12 S1x128x2x128.size p12) (fun _ => rfl)).squeeze S128x2x128 squeezes_S1x128x2x128_S128x2x128).view.WordExact}
    {hd : (O.slice (Rect.unit (s := S160000x2x128) o13 S128x2x128.size p13) (fun _ => rfl)).view.WordExact}
    {ht : DmaTarget.Typed (nD := nD) (.vmem) (.dma ((sQ.slice (Rect.unit (s := S2) o14 S1.size p14)).squeeze S_ squeezes_S1_S_).sem)
      (.here (O.slice (Rect.unit (s := S160000x2x128) o13 S128x2x128.size p13) (fun _ => rfl)) : DmaTarget nD τ sig (V d c j).2 .hbm S128x2x128 .f32)}
    {k : PUnit → Prog (TpuEff nD τ sig (Elt F) Λ₀ (V d c j).2) α} (p : Fin 2) (b : ℕ) (f : Buf (Elt F) (O.view.loc (V d c j)))
    (e12 : o12 = ![p.val, 0, 0, 0]) (e13 : o13 = ![128 * b, 0, 0]) (e14 : o14 = ![p.val]) (hb : b < 1250)
    (hgO : ∀ y, O.view.read (Elt F) gO y = gath fT fI y) :
    iprop(QHas d c j B sQ fT fI p b ∗ OPts d c j O b f) ⊢
      iprop((QFly d c j B O sQ gO p b -∗ wp frame (wpE (defs₀ (F := F)) 𝒱₀ (V d c j) none) Set.univ (k ⟨⟩) Q) -∗
      wp frame (wpE (defs₀ (F := F)) 𝒱₀ (V d c j) none) Set.univ
        (Prog.lift (.enqueueDma ((B.slice (Rect.unit (s := S2x128x2x128) o12 S1x128x2x128.size p12) (fun _ => rfl)).squeeze S128x2x128 squeezes_S1x128x2x128_S128x2x128)
              (.here (O.slice (Rect.unit (s := S160000x2x128) o13 S128x2x128.size p13) (fun _ => rfl)))
              (.dma ((sQ.slice (Rect.unit (s := S2) o14 S1.size p14)).squeeze S_ squeezes_S1_S_).sem) hs hd ht) >>= k) Q) := by
  subst e12 e13 e14
  unfold QHas OPts
  rw [oSet_eq O hb]
  iintro ⟨⟨%fq, %hfq, Hq, Hv⟩, Ho⟩ Hk
  iapply (Transfers.wp_dmaLocal countersEmb 𝒱₀ (V d c j) none (default : HIx 1) (oBlk O (b := 0) (by omega)).view.dmaCredit rfl
    (View.dmaCredit_pos _ (by decide)) (Finset.Subset.refl (oBlk O hb).view.set)) $$ [Hq Ho Hv]
  · isplitl [Hq]; · iexact Hq
    isplitl [Ho]; · iexact Ho
    iexact Hv
  iintro Hfl
  iapply Hk
  unfold QFly OPts
  rw [oSet_eq O hb]
  iapply (Transfers.Flight_mono countersEmb (V d c j) ?_) $$ Hfl
  iintro ⟨H1, H2⟩
  isplitl [H1]
  · rw [pointsTo_congr (ℓ := (oBlk O hb).view.loc (V d c j)) (g := gO) ?_]
    · exact .rfl
    · intro i hi
      obtain ⟨x, -, rfl⟩ := Finset.mem_map.mp hi
      refine View.eq_of_read_eq ?_
      rw [View.read_write_univ]
      show (qSlot B p).view.read (Elt F) fq x = O.view.read (Elt F) gO ((Rect.unit (s := S160000x2x128) ![128 * b, 0, 0] S128x2x128.size (inb_oBlk hb)).emb x)
      rw [hgO]
      refine hfq x _ ?_ ?_ ?_
      · show 128 * b + 1 * (x 0).val = _; omega
      · show 0 + 1 * (x 1).val = _; omega
      · show 0 + 1 * (x 2).val = _; omega
  · iexists fq
    iexact H2

theorem waitO {o15 : Fin 4 → ℕ} {o16 : Fin 3 → ℕ} {o17 : Fin 1 → ℕ}
    {p15 : ∀ a, o15 a + S1x128x2x128.size a ≤ S2x128x2x128.size a} {p16 : ∀ a, o16 a + S128x2x128.size a ≤ S160000x2x128.size a}
    {p17 : ∀ a, o17 a + S1.size a ≤ S2.size a}
    {hs : ((B.slice (Rect.unit (s := S2x128x2x128) o15 S1x128x2x128.size p15) (fun _ => rfl)).squeeze S128x2x128 squeezes_S1x128x2x128_S128x2x128).view.WordExact}
    {hd : (O.slice (Rect.unit (s := S160000x2x128) o16 S128x2x128.size p16) (fun _ => rfl)).view.WordExact}
    {k : PUnit → Prog (TpuEff nD τ sig (Elt F) Λ₀ (V d c j).2) α} (p : Fin 2) (b : ℕ)
    {Oc : CellTallies nD τ sig (HIx 1)} {W : Waits sig (HIx 1)} (hO : ∀ g, Oc g none = 0)
    (e17 : o17 = ![p.val]) :
    iprop(levAts (K (F := F)).L (K (F := F)).lev ∗ QFly d c j B O sQ gO p b ∗ Ow d c j Oc W) ⊢
      iprop((QFree d c j B sQ p ∗ OPts d c j O b gO ∗ Ow d c j Oc W -∗ wp frame (wpE (defs₀ (F := F)) 𝒱₀ (V d c j) none) Set.univ (k ⟨⟩) Q) -∗
      wp frame (wpE (defs₀ (F := F)) 𝒱₀ (V d c j) none) Set.univ
        (Prog.lift (.waitDma2 ((sQ.slice (Rect.unit (s := S2) o17 S1.size p17)).squeeze S_ squeezes_S1_S_).sem
              ((B.slice (Rect.unit (s := S2x128x2x128) o15 S1x128x2x128.size p15) (fun _ => rfl)).squeeze S128x2x128 squeezes_S1x128x2x128_S128x2x128)
              (O.slice (Rect.unit (s := S160000x2x128) o16 S128x2x128.size p16) (fun _ => rfl)) hs hd) >>= k) Q) := by
  subst e17
  unfold QFly Ow
  iintro ⟨#Hlv, Hfl, %W', %hW, HO⟩ Hk
  ihave Hmw := (show levAts (K (F := F)).L (K (F := F)).lev ⊢ Transfers.MayWaits (V d c j) (default : HIx 1) Oc from
    (K (F := F)).mayWaits_none (thr := V d c j) hO) $$ Hlv
  iapply (Transfers.wp_waitLocalO countersEmb 𝒱₀ (V d c j) none (default : HIx 1) rfl) $$ [Hfl HO]
  · isplitl [Hfl]; · iexact Hfl
    isplitl [HO]; · iexact HO
    iapply (Transfers.MayWaits.elim (SemLoc.dma (semAt sQ p))) $$ Hmw
  iintro ⟨⟨Ho, %f, Hq⟩, Hv, HO⟩
  iapply Hk
  isplitl [Hq Hv]
  · unfold QFree
    iexists f
    isplitl [Hq] <;> iassumption
  isplitl [Ho]; · iexact Ho
  iexists (insert (SemLoc.dma (semAt sQ p), (default : HIx 1)) W')
  isplitr
  · ipureintro
    intro x hx
    rcases Finset.mem_insert.mp hx with e | e
    · right; rw [e]; rfl
    · exact hW x e
  · iexact HO

end Cert.Proof.Tile
-- ==== Proof.Trip.lean ====
/-
  What holds of a tile before each trip of its loop: the block about to be worked on is on its way into one slot of row
  numbers, the block before is on its way out of one slot of gathered rows, the blocks before that are done, the rest are
  as the call found them.
-/
module

public import proofs.«01_k».proof.Proof.Steps

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (c : Fin τ.nSC) (j : Fin τ.nSub)
variable (A : Memref sig .scVector .vmem S2x1x128 .i32) (B : Memref sig .scVector .vmem S2x128x2x128 .f32)
variable (O : Memref sig .scVector .hbm S160000x2x128 .f32) (sI sQ : DmaSems sig S2)
variable (fT : Buf (Elt F) ((tV).view.loc (V d c j))) (fI : Buf (Elt F) ((iV).view.loc (V d c j)))
variable (gO : Buf (Elt F) (O.view.loc (V d c j)))

/-- The slot of trip `k`. -/
def sl (k : ℕ) : Fin 2 := ⟨k % 2, Nat.mod_lt _ (by decide)⟩

theorem sl_add_two (k : ℕ) : sl (k + 1 + 1) = sl k := Fin.ext (by show (k + 1 + 1) % 2 = k % 2; omega)
theorem sl_pred {k : ℕ} (h : 0 < k) : sl (k - 1) = sl (k + 1) := Fin.ext (by show (k - 1) % 2 = (k + 1) % 2; omega)

/-- An offset known at each count below 41 is known at any of them. -/
theorem offAt {α : Type} (f : BitVec 32 → α) (g : ℕ → α) (h : ∀ n : Fin 41, f (BitVec.ofNat 32 n.val) = g n.val) (k : ℕ) (hk : k < 41) :
    f (BitVec.ofNat 32 k) = g k := h ⟨k, hk⟩

/-- The offset of a slot, of rank four, of rank three and of rank one. -/
abbrev at4 (n : ℕ) : Fin 4 → ℕ := ![(sl n).val, 0, 0, 0]
abbrev at3 (n : ℕ) : Fin 3 → ℕ := ![(sl n).val, 0, 0]
abbrev at1 (n : ℕ) : Fin 1 → ℕ := ![(sl n).val]

/-- Blocks `s` up to `e` at contents `f`. -/
def OBlks (s e : ℕ) (f : Buf (Elt F) (O.view.loc (V d c j))) : sProp 𝕄 := bigSep (Finset.Ico s e) fun b => OPts d c j O b f

theorem OBlks_head {s e : ℕ} (h : s < e) (f : Buf (Elt F) (O.view.loc (V d c j))) :
    OBlks d c j O s e f = iprop(OPts d c j O s f ∗ OBlks d c j O (s + 1) e f) := by
  unfold OBlks
  rw [← Finset.insert_Ico_add_one_left_eq_Ico h, SparseCore.bigSep_insert' (by simp)]
theorem OBlks_last {s e : ℕ} (h : s ≤ e) (f : Buf (Elt F) (O.view.loc (V d c j))) :
    OBlks d c j O s (e + 1) f = iprop(OPts d c j O e f ∗ OBlks d c j O s e f) := by
  unfold OBlks
  rw [← Finset.insert_Ico_right_eq_Ico_add_one h, SparseCore.bigSep_insert' (by simp)]
theorem OBlks_none (s : ℕ) (f : Buf (Elt F) (O.view.loc (V d c j))) : OBlks d c j O s s f = iprop(emp) := by
  unfold OBlks
  rw [Finset.Ico_self]; exact bigSep_empty

/-- Before trip `k` of `n`, the tile's blocks starting at `b₀`. -/
def Inv (qs : Fin 2 → PosShare TreeShare) (qt : PosShare TreeShare) (s4 : DmaSem sig) (b₀ n : ℕ) (f0 : Buf (Elt F) (O.view.loc (V d c j)))
    (Oc : CellTallies nD τ sig (HIx 1)) (W : Waits sig (HIx 1)) (k : ℕ) : sProp 𝕄 :=
  iprop((if k < n then IFly d c j A sI fI (qs (sl k)) (sl k) (b₀ + k) else IFree d c j A sI fI (qs (sl k)) (sl k))
    ∗ IFree d c j A sI fI (qs (sl (k + 1))) (sl (k + 1))
    ∗ (if k = 0 then QFree d c j B sQ (sl (k + 1)) else QFly d c j B O sQ gO (sl (k + 1)) (b₀ + (k - 1)))
    ∗ QFree d c j B sQ (sl k)
    ∗ OBlks d c j O b₀ (b₀ + (k - 1)) gO ∗ OBlks d c j O (b₀ + k) (b₀ + n) f0
    ∗ ((tV).view.loc (V d c j) ↦{qt} fT) ∗ semVal (V d c j, .dma s4) 0 ∗ Ow d c j Oc W)

theorem inv_zero {qs : Fin 2 → PosShare TreeShare} {qt : PosShare TreeShare} {s4 : DmaSem sig} {b₀ n : ℕ} {f0 : Buf (Elt F) (O.view.loc (V d c j))}
    {Oc : CellTallies nD τ sig (HIx 1)} {W : Waits sig (HIx 1)} (hn : 0 < n) :
    Inv d c j A B O sI sQ fT fI gO qs qt s4 b₀ n f0 Oc W 0
      = iprop(IFly d c j A sI fI (qs (sl 0)) (sl 0) (b₀ + 0) ∗ IFree d c j A sI fI (qs (sl (0 + 1))) (sl (0 + 1))
        ∗ QFree d c j B sQ (sl (0 + 1)) ∗ QFree d c j B sQ (sl 0) ∗ emp ∗ OBlks d c j O b₀ (b₀ + n) f0
        ∗ ((tV).view.loc (V d c j) ↦{qt} fT) ∗ semVal (V d c j, .dma s4) 0 ∗ Ow d c j Oc W) := by
  unfold Inv
  rw [if_pos hn, if_pos rfl, show b₀ + (0 - 1) = b₀ from rfl, OBlks_none]

theorem inv_last {qs : Fin 2 → PosShare TreeShare} {qt : PosShare TreeShare} {s4 : DmaSem sig} {b₀ n : ℕ} {f0 : Buf (Elt F) (O.view.loc (V d c j))}
    {Oc : CellTallies nD τ sig (HIx 1)} {W : Waits sig (HIx 1)} (hn : 0 < n) :
    Inv d c j A B O sI sQ fT fI gO qs qt s4 b₀ n f0 Oc W n
      = iprop(IFree d c j A sI fI (qs (sl n)) (sl n) ∗ IFree d c j A sI fI (qs (sl (n + 1))) (sl (n + 1))
        ∗ QFly d c j B O sQ gO (sl (n + 1)) (b₀ + (n - 1)) ∗ QFree d c j B sQ (sl n) ∗ OBlks d c j O b₀ (b₀ + (n - 1)) gO ∗ emp
        ∗ ((tV).view.loc (V d c j) ↦{qt} fT) ∗ semVal (V d c j, .dma s4) 0 ∗ Ow d c j Oc W) := by
  unfold Inv
  rw [if_neg (Nat.lt_irrefl _), if_neg (by omega : ¬ n = 0), OBlks_none]

/-- A step under a condition whose truth is known as `t`: what it needs, and what it leaves, only if `t`. -/
theorem ifStep {α β : Type} {Q : α → sProp (MT nD τ sig (HIx 1) (Elt F) ℕ UU ℕ)} {cnd : BitVec 1} {op : cnd = 1#1 → TpuEff nD τ sig (Elt F) Λ₀ (V d c j).2 PUnit} {X : β}
    {k : β → Prog (TpuEff nD τ sig (Elt F) Λ₀ (V d c j).2) α} {R R' N : sProp (MT nD τ sig (HIx 1) (Elt F) ℕ UU ℕ)} {t : Prop} [Decidable t]
    (hc : cnd = if t then 1#1 else 0#1)
    (hstep : ∀ (h : cnd = 1#1), t → ∀ k' : PUnit → Prog (TpuEff nD τ sig (Elt F) Λ₀ (V d c j).2) α,
      R ⊢ iprop((R' -∗ wp frame (wpE (defs₀ (F := F)) 𝒱₀ (V d c j) none) Set.univ (k' ⟨⟩) Q) -∗
        wp frame (wpE (defs₀ (F := F)) 𝒱₀ (V d c j) none) Set.univ (Prog.lift (op h) >>= k') Q)) :
    (if t then R else N) ⊢ iprop(((if t then R' else N) -∗ wp frame (wpE (defs₀ (F := F)) 𝒱₀ (V d c j) none) Set.univ (k X) Q) -∗
      wp frame (wpE (defs₀ (F := F)) 𝒱₀ (V d c j) none) Set.univ ((if h : cnd = 1#1 then Prog.lift (op h) >>= fun _ => pure X else pure X) >>= k) Q) := by
  by_cases ht : t
  · rw [if_pos ht] at hc ⊢
    rw [if_pos ht, dif_pos hc, bind_assoc]
    exact hstep hc ht fun _ => k X
  · rw [if_neg ht] at hc ⊢
    rw [if_neg ht, dif_neg (by rw [hc]; decide)]
    iintro H Hk
    iapply Hk
    iexact H

/-- What waiting for the block before needs, when there is one. -/
theorem outPre {k b₀ : ℕ} {Oc : CellTallies nD τ sig (HIx 1)} {W : Waits sig (HIx 1)} :
    iprop(levAts (K (F := F)).L (K (F := F)).lev
        ∗ (if k = 0 then QFree d c j B sQ (sl (k + 1)) else QFly d c j B O sQ gO (sl (k + 1)) (b₀ + (k - 1))) ∗ Ow d c j Oc W) ⊢
      (if ¬ k = 0 then iprop(levAts (K (F := F)).L (K (F := F)).lev ∗ QFly d c j B O sQ gO (sl (k + 1)) (b₀ + (k - 1)) ∗ Ow d c j Oc W)
        else iprop(QFree d c j B sQ (sl (k + 1)) ∗ Ow d c j Oc W)) := by
  by_cases h : k = 0
  · rw [if_pos h, if_neg (not_not.mpr h)]
    iintro ⟨-, H⟩
    iexact H
  · rw [if_neg h, if_pos h]

/-- What it leaves. -/
theorem outPost {k b₀ : ℕ} {Oc : CellTallies nD τ sig (HIx 1)} {W : Waits sig (HIx 1)} :
    iprop((if ¬ k = 0 then iprop(QFree d c j B sQ (sl (k + 1)) ∗ OPts d c j O (b₀ + (k - 1)) gO ∗ Ow d c j Oc W)
        else iprop(QFree d c j B sQ (sl (k + 1)) ∗ Ow d c j Oc W)) ∗ OBlks d c j O b₀ (b₀ + (k - 1)) gO) ⊢
      iprop(QFree d c j B sQ (sl (k + 1)) ∗ OBlks d c j O b₀ (b₀ + k) gO ∗ Ow d c j Oc W) := by
  by_cases h : k = 0
  · subst h
    rw [if_neg (not_not.mpr rfl)]
    iintro ⟨⟨H1, H2⟩, H3⟩
    isplitl [H1]; · iexact H1
    isplitl [H3]; · iexact H3
    iexact H2
  · rw [if_pos h, show b₀ + k = b₀ + (k - 1) + 1 by omega, OBlks_last d c j O (Nat.le_add_right _ _)]
    iintro ⟨⟨H1, H2, H3⟩, H4⟩
    isplitl [H1]; · iexact H1
    isplitl [H2 H4]
    · isplitl [H2] <;> iassumption
    iexact H3

/-- A program that is done. -/
theorem retStep {α : Type} {Q : α → sProp (MT nD τ sig (HIx 1) (Elt F) ℕ UU ℕ)} (a : α) :
    Q a ⊢ wp frame (wpE (defs₀ (F := F)) 𝒱₀ (V d c j) none) Set.univ (pure a : Prog (TpuEff nD τ sig (Elt F) Λ₀ (V d c j).2) α) Q := by
  rw [wp_pure]; exact fupd_intro

/-- A side condition the program assumes, proved. -/
theorem assumeStep {α : Type} {Q : α → sProp (MT nD τ sig (HIx 1) (Elt F) ℕ UU ℕ)} {P : Prop} {dP : Decidable P}
    {k : PLift P → Prog (TpuEff nD τ sig (Elt F) Λ₀ (V d c j).2) α} (h : P) :
    wp frame (wpE (defs₀ (F := F)) 𝒱₀ (V d c j) none) Set.univ (k ⟨h⟩) Q ⊢
      wp frame (wpE (defs₀ (F := F)) 𝒱₀ (V d c j) none) Set.univ (Prog.lift (.assume P dP) >>= k) Q :=
  wp_assume 𝒱₀ (V d c j) none Set.univ h

/-- The counters a trip returns, from those it found. -/
theorem next_canon : ∀ (i : grid0.Coords) (k : Fin 40), k.val < nn i →
    (Scalar.select (Scalar.andi (Scalar.andi (Scalar.cmpi .ne (Scalar.addi (BitVec.ofNat 32 k.val) (v10w i))
        (Scalar.addi (Scalar.select (Scalar.cmpi .eq (Scalar.select 1#1 (Scalar.addi (BitVec.ofNat 32 k.val) 1#32) (BitVec.ofNat 32 k.val)) (v5w i))
          0#32 (Scalar.select 1#1 (Scalar.addi (BitVec.ofNat 32 k.val) 1#32) (BitVec.ofNat 32 k.val))) (v10w i)))
        (Scalar.xori (Scalar.cmpi .sge (Scf.iv 0#32 1#32 k.val) (Scalar.addi (Scalar.subi (Scalar.muli 1#32 (v5w i)) 2#32) 1#32)) 1#1)) 1#1)
        (Scalar.addi (w6 i k.val) 1#32) (w6 i k.val),
      Scalar.select (Scalar.ori (Scalar.cmpi .ne (Scalar.addi (BitVec.ofNat 32 k.val) (v10w i))
        (Scalar.addi (Scalar.select (Scalar.cmpi .eq (Scalar.select 1#1 (Scalar.addi (BitVec.ofNat 32 k.val) 1#32) (BitVec.ofNat 32 k.val)) (v5w i))
          0#32 (Scalar.select 1#1 (Scalar.addi (BitVec.ofNat 32 k.val) 1#32) (BitVec.ofNat 32 k.val))) (v10w i)))
        (Scalar.cmpi .eq (Scf.iv 0#32 1#32 k.val) (Scalar.subi (Scalar.muli 1#32 (v5w i)) 1#32)))
        (Scalar.addi (BitVec.ofNat 32 k.val) 1#32) (BitVec.ofNat 32 k.val),
      Scalar.select (Scalar.andi (Scalar.ori (Scalar.cmpi .ne (Scalar.addi (BitVec.ofNat 32 k.val) (v10w i))
        (Scalar.addi (Scalar.select (Scalar.cmpi .eq (Scalar.select 1#1 (Scalar.addi (BitVec.ofNat 32 k.val) 1#32) (BitVec.ofNat 32 k.val)) (v5w i))
          0#32 (Scalar.select 1#1 (Scalar.addi (BitVec.ofNat 32 k.val) 1#32) (BitVec.ofNat 32 k.val))) (v10w i)))
        (Scalar.cmpi .eq (Scf.iv 0#32 1#32 k.val) (Scalar.subi (Scalar.muli 1#32 (v5w i)) 1#32))) 1#1)
        (Scalar.addi (BitVec.ofNat 32 k.val) 1#32) (BitVec.ofNat 32 k.val),
      Scalar.select (Scalar.andi (Scalar.andi (Scalar.cmpi .ne (Scalar.addi (BitVec.ofNat 32 k.val) (v10w i))
        (Scalar.addi (Scalar.select (Scalar.cmpi .eq (Scalar.select 1#1 (Scalar.subi (BitVec.ofNat 32 k.val) 1#32) (BitVec.ofNat 32 k.val)) 4294967295#32)
          (Scalar.subi (v5w i) 1#32) (Scalar.select 1#1 (Scalar.subi (BitVec.ofNat 32 k.val) 1#32) (BitVec.ofNat 32 k.val))) (v10w i)))
        (Scalar.xori (Scalar.cmpi .eq (Scf.iv 0#32 1#32 k.val) 0#32) 1#1)) 1#1)
        (Scalar.addi (w9 k.val) 1#32) (w9 k.val),
      Scalar.select (Scalar.cmpi .eq (Scalar.select 1#1 (Scalar.addi (BitVec.ofNat 32 k.val) 1#32) (BitVec.ofNat 32 k.val)) (v5w i))
        0#32 (Scalar.select 1#1 (Scalar.addi (BitVec.ofNat 32 k.val) 1#32) (BitVec.ofNat 32 k.val))) = canon i (k.val + 1) := by decide +kernel

end Cert.Proof.Tile
-- ==== Proof.Slots.lean ====
/-
  A tile's buffers and semaphores as its slots: each buffer of two slots is its slots, the list's share is two halves.
-/
module

public import proofs.«01_k».proof.Proof.Trip

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- Two sets that make up a buffer: it is them, at some contents each. -/
theorem two_parts {ℓ : Loc nD τ sig} {I J : Finset (Idx ℓ)} (hd : Disjoint I J) (hu : I ∪ J = Finset.univ) :
    (iprop(∃ f, ℓ ↦{fullShare} f) : sProp 𝕄) ⊣⊢ iprop((∃ f, ℓ ↦[I]{fullShare} f) ∗ ∃ f, ℓ ↦[J]{fullShare} f) := by
  constructor
  · iintro ⟨%f, H⟩
    ihave H := (Entails.of_eq (show (ℓ ↦{fullShare} f : sProp 𝕄) = ℓ ↦[I ∪ J]{fullShare} f by rw [hu])) $$ H
    ihave H := (pointsTo_union hd).1 $$ H
    icases H with ⟨H1, H2⟩
    isplitl [H1]
    · iexists f; iexact H1
    · iexists f; iexact H2
  · iintro ⟨⟨%f, H1⟩, %g, H2⟩
    ihave H := (pointsTo_join (f := f) (g := g) hd) $$ [H1 H2]
    · isplitl [H1] <;> iassumption
    iexists (J.piecewise g f)
    rw [← hu]
    iexact H

variable (A : Memref sig .scVector .vmem S2x1x128 .i32) (B : Memref sig .scVector .vmem S2x128x2x128 .f32)

/-- The slot an element is in. -/
def iFst (x : S2x1x128.Idx) : Fin 2 := x 0
def qFst (x : S2x128x2x128.Idx) : Fin 2 := x 0

theorem iSlot_set (p : Fin 2) : (iSlot A p).view.set = A.view.setOn (Finset.univ.filter fun x => iFst x = p) := by
  show ((A.view.slice (Rect.unit (s := S2x1x128) ![p.val, 0, 0] S1x1x128.size (inb_iSlot p))).reshape S1x128 _).set = _
  rw [View.set_reshape, View.set_slice]
  refine congrArg (Finset.map A.view.emb) (Finset.ext fun x => ?_)
  rw [Finset.mem_filter, Rect.mem_set_unit]
  have h1 : (x 1).val < 1 := (x 1).isLt
  have h2 : (x 2).val < 128 := (x 2).isLt
  constructor
  · intro e
    have e0 : p.val ≤ (x 0).val ∧ (x 0).val < p.val + 1 := e 0
    exact ⟨Finset.mem_univ _, Fin.ext (Nat.le_antisymm (Nat.le_of_lt_succ e0.2) e0.1)⟩
  · rintro ⟨-, e⟩ a
    match a with
    | 0 => show p.val ≤ (x 0).val ∧ (x 0).val < p.val + 1; exact ⟨le_of_eq (congrArg Fin.val e).symm, Nat.lt_succ_of_le (le_of_eq (congrArg Fin.val e))⟩
    | 1 => exact ⟨Nat.zero_le _, by show (x 1).val < 0 + 1; omega⟩
    | 2 => exact ⟨Nat.zero_le _, by show (x 2).val < 0 + 128; omega⟩

theorem qSlot_set (p : Fin 2) : (qSlot B p).view.set = B.view.setOn (Finset.univ.filter fun x => qFst x = p) := by
  show ((B.view.slice (Rect.unit (s := S2x128x2x128) ![p.val, 0, 0, 0] S1x128x2x128.size (inb_qSlot p))).reshape S128x2x128 _).set = _
  rw [View.set_reshape, View.set_slice]
  refine congrArg (Finset.map B.view.emb) (Finset.ext fun x => ?_)
  rw [Finset.mem_filter, Rect.mem_set_unit]
  have h1 : (x 1).val < 128 := (x 1).isLt
  have h2 : (x 2).val < 2 := (x 2).isLt
  have h3 : (x 3).val < 128 := (x 3).isLt
  constructor
  · intro e
    have e0 : p.val ≤ (x 0).val ∧ (x 0).val < p.val + 1 := e 0
    exact ⟨Finset.mem_univ _, Fin.ext (Nat.le_antisymm (Nat.le_of_lt_succ e0.2) e0.1)⟩
  · rintro ⟨-, e⟩ a
    match a with
    | 0 => show p.val ≤ (x 0).val ∧ (x 0).val < p.val + 1; exact ⟨le_of_eq (congrArg Fin.val e).symm, Nat.lt_succ_of_le (le_of_eq (congrArg Fin.val e))⟩
    | 1 => exact ⟨Nat.zero_le _, by show (x 1).val < 0 + 128; omega⟩
    | 2 => exact ⟨Nat.zero_le _, by show (x 2).val < 0 + 2; omega⟩
    | 3 => exact ⟨Nat.zero_le _, by show (x 3).val < 0 + 128; omega⟩

theorem two_disjoint {α β : Type} [Fintype α] (e : α ↪ β) (P : α → Fin 2) :
    Disjoint ((Finset.univ.filter fun x => P x = 0).map e) ((Finset.univ.filter fun x => P x = 1).map e) := by
  rw [Finset.disjoint_map, Finset.disjoint_left]
  intro x h1 h2
  have e := (Finset.mem_filter.mp h1).2.symm.trans (Finset.mem_filter.mp h2).2
  exact absurd e (by decide)

theorem iSlots_disjoint : Disjoint (iSlot A 0).view.set (iSlot A 1).view.set := by
  rw [iSlot_set, iSlot_set]
  exact two_disjoint A.view.emb iFst
theorem qSlots_disjoint : Disjoint (qSlot B 0).view.set (qSlot B 1).view.set := by
  rw [qSlot_set, qSlot_set]
  exact two_disjoint B.view.emb qFst

theorem two_all {α β : Type} [Fintype α] [DecidableEq α] [DecidableEq β] (e : α ↪ β) (P : α → Fin 2) :
    (Finset.univ.filter fun x => P x = 0).map e ∪ (Finset.univ.filter fun x => P x = 1).map e = Finset.univ.map e := by
  rw [← Finset.map_union]
  refine congrArg (Finset.map e) (Finset.ext fun x => ⟨fun _ => Finset.mem_univ x, fun _ => Finset.mem_union.mpr ?_⟩)
  have := (P x).isLt
  rcases Nat.eq_zero_or_pos (P x).val with h | h
  · exact Or.inl (Finset.mem_filter.mpr ⟨Finset.mem_univ x, Fin.ext h⟩)
  · exact Or.inr (Finset.mem_filter.mpr ⟨Finset.mem_univ x, Fin.ext (by show (P x).val = 1; omega)⟩)

theorem iSlots_cover : (iSlot A 0).view.set ∪ (iSlot A 1).view.set = A.view.set := by
  rw [iSlot_set, iSlot_set]
  exact two_all A.view.emb iFst
theorem qSlots_cover : (qSlot B 0).view.set ∪ (qSlot B 1).view.set = B.view.set := by
  rw [qSlot_set, qSlot_set]
  exact two_all B.view.emb qFst

variable (d : Dev nD) (c : Fin τ.nSC) (j : Fin τ.nSub) (sI sQ : DmaSems sig S2)
variable (fI : Buf (Elt F) ((iV).view.loc (V d c j)))

/-- The two halves of a share of the list. -/
def half (q : PosShare TreeShare) (p : Fin 2) : PosShare TreeShare := if p = 0 then q.left else q.right

theorem slotsI (hA : A.view.set = Finset.univ) (q : PosShare TreeShare) :
    (iprop((∃ f, A.view.loc (V d c j) ↦{fullShare} f) ∗ ((iV).view.loc (V d c j) ↦{q} fI)
        ∗ semVal (V d c j, .dma (semAt sI 0)) 0 ∗ semVal (V d c j, .dma (semAt sI 1)) 0) : sProp 𝕄)
      ⊣⊢ iprop(IFree d c j A sI fI (half q 0) 0 ∗ IFree d c j A sI fI (half q 1) 1) := by
  have h2 := two_parts (F := F) (ℓ := A.view.loc (V d c j)) (iSlots_disjoint A) ((iSlots_cover A).trans hA)
  have hq : (((iV).view.loc (V d c j) ↦{q} fI : sProp 𝕄)) ⊣⊢ iprop(((iV).view.loc (V d c j) ↦{q.left} fI) ∗ ((iV).view.loc (V d c j) ↦{q.right} fI)) :=
    pointsTo_share (PosShare.mem_left_op_right q)
  unfold IFree half
  rw [if_pos rfl, if_neg (by decide)]
  constructor
  · iintro ⟨Ha, Hi, H0, H1⟩
    ihave Ha := h2.1 $$ Ha
    ihave Hi := hq.1 $$ Hi
    icases Ha with ⟨⟨%f, Ha⟩, %g, Hb⟩
    icases Hi with ⟨Hi, Hj⟩
    isplitl [Ha Hi H0]
    · iexists f
      isplitl [Ha]; · iexact Ha
      isplitl [Hi] <;> iassumption
    · iexists g
      isplitl [Hb]; · iexact Hb
      isplitl [Hj] <;> iassumption
  · iintro ⟨⟨%f, Ha, Hi, H0⟩, %g, Hb, Hj, H1⟩
    isplitl [Ha Hb]
    · iapply h2.2
      isplitl [Ha]
      · iexists f; iexact Ha
      · iexists g; iexact Hb
    isplitl [Hi Hj]
    · iapply hq.2
      isplitl [Hi] <;> iassumption
    isplitl [H0] <;> iassumption

theorem slotsQ (hB : B.view.set = Finset.univ) :
    (iprop((∃ f, B.view.loc (V d c j) ↦{fullShare} f)
        ∗ semVal (V d c j, .dma (semAt sQ 0)) 0 ∗ semVal (V d c j, .dma (semAt sQ 1)) 0) : sProp 𝕄)
      ⊣⊢ iprop(QFree d c j B sQ 0 ∗ QFree d c j B sQ 1) := by
  have h2 := two_parts (F := F) (ℓ := B.view.loc (V d c j)) (qSlots_disjoint B) ((qSlots_cover B).trans hB)
  unfold QFree
  constructor
  · iintro ⟨Ha, H0, H1⟩
    ihave Ha := h2.1 $$ Ha
    icases Ha with ⟨⟨%f, Ha⟩, %g, Hb⟩
    isplitl [Ha H0]
    · iexists f
      isplitl [Ha] <;> iassumption
    · iexists g
      isplitl [Hb] <;> iassumption
  · iintro ⟨⟨%f, Ha, H0⟩, %g, Hb, H1⟩
    isplitl [Ha Hb]
    · iapply h2.2
      isplitl [Ha]
      · iexists f; iexact Ha
      · iexists g; iexact Hb
    isplitl [H0] <;> iassumption

/-- Whichever slot is the current one, the two are the two. -/
theorem two_slots (Φ : Fin 2 → sProp 𝕄) (n : ℕ) : iprop(Φ (sl n) ∗ Φ (sl (n + 1))) ⊢ iprop(Φ 0 ∗ Φ 1) := by
  rcases Nat.mod_two_eq_zero_or_one n with h | h
  · rw [show sl n = 0 from Fin.ext h, show sl (n + 1) = 1 from Fin.ext (by show (n + 1) % 2 = 1; omega)]
  · rw [show sl n = 1 from Fin.ext h, show sl (n + 1) = 0 from Fin.ext (by show (n + 1) % 2 = 0; omega)]
    iintro ⟨H1, H0⟩
    isplitl [H0] <;> iassumption

/-! ## A tile's own semaphores and buffers -/

omit [FloatOps F] in
/-- Five of the tile's semaphores, and the rest. -/
theorem ownSems0_split (s : Fin 5 → DmaSem sig) (hs : ∀ a, (SemLoc.dma (s a) : SemLoc sig).isScoped .scVector = true) (hi : Function.Injective s) :
    (SparseCore.Cfg.ownSems0 (V d c j) : sProp 𝕄) = iprop((semVal (V d c j, .dma (s 0)) 0 ∗ semVal (V d c j, .dma (s 1)) 0 ∗ semVal (V d c j, .dma (s 2)) 0
      ∗ semVal (V d c j, .dma (s 3)) 0 ∗ semVal (V d c j, .dma (s 4)) 0)
    ∗ bigSep (SparseCore.Cfg.ownCells (V d c j) \ Finset.univ.image fun a : Fin 5 => ((V d c j, .dma (s a)) : GSem nD τ sig)) fun g => semVal g 0) := by
  unfold SparseCore.Cfg.ownSems0
  have hs' : (Finset.univ.image fun a : Fin 5 => ((V d c j, .dma (s a)) : GSem nD τ sig)) ⊆ SparseCore.Cfg.ownCells (V d c j) := by
    intro g hg
    obtain ⟨a, -, rfl⟩ := Finset.mem_image.mp hg
    exact (SparseCore.Cfg.mem_ownCells (g := ((V d c j, .dma (s a)) : GSem nD τ sig))).mpr ⟨rfl, hs a⟩
  have hj : Set.InjOn (fun a : Fin 5 => ((V d c j, .dma (s a)) : GSem nD τ sig)) (Finset.univ : Finset (Fin 5)) := by
    intro a _ b _ e
    exact hi (SemLoc.dma.inj (Prod.mk.inj e).2)
  rw [SparseCore.bigSep_sdiff_split' hs', SparseCore.bigSep_image_of_injOn hj]
  rw [bigSep_univ_succ, bigSep_univ_succ, bigSep_univ_succ, bigSep_univ_succ, bigSep_univ_of_subsingleton (0 : Fin 1)]
  rfl

omit [FloatOps F] in
/-- Two of its buffers, and the rest. -/
theorem ownBufs_split (r r' : Ref sig .scVector) (h : r' ≠ r) (ho : ((Proc.scVector c j).devRef r).owner = .proc (.scVector c j))
    (ho' : ((Proc.scVector c j).devRef r').owner = .proc (.scVector c j)) :
    (SparseCore.Cfg.ownBufs (V d c j) : sProp 𝕄)
      = iprop((∃ f, (V d c j).loc r ↦{fullShare} f) ∗ (∃ f, (V d c j).loc r' ↦{fullShare} f)
          ∗ bigSep (((SparseCore.Cfg.ownRefs (τ := τ) (.scVector c j)).erase ((Proc.scVector c j).devRef r)).erase ((Proc.scVector c j).devRef r'))
              fun b => iprop(∃ f, ((d, b) : Loc nD τ sig) ↦{fullShare} f)) := by
  unfold SparseCore.Cfg.ownBufs
  refine (SparseCore.bigSep_erase' (SparseCore.Cfg.mem_ownRefs_of_owner (p := Proc.scVector c j) (b := (Proc.scVector c j).devRef r) ho)).trans ?_
  rw [SparseCore.bigSep_erase' (Finset.mem_erase.mpr ⟨fun e => absurd (Proc.devRef_injective _ e) h,
    SparseCore.Cfg.mem_ownRefs_of_owner (p := Proc.scVector c j) (b := (Proc.scVector c j).devRef r') ho'⟩)]

end Cert.Proof.Tile
-- ==== Proof.Pay.lean ====
/-
  What the gather call is handed and hands back: each tile a share of the table and of the list, and its blocks of the result.
-/
module

public import proofs.«01_k».proof.Proof.Slots
public import Idealize.ShloMosaic.Lib.SparseCore.Quiescent

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ)

/-- The table, the index array, the list, the edge features and the call's result, as the TensorCore names them. -/
abbrev aLoc (d : Dev nD) : Loc nD τ sig := (SparseCore.T d).loc main_v55
abbrev bLoc (d : Dev nD) : Loc nD τ sig := (SparseCore.T d).loc main_arg2
abbrev eLoc (d : Dev nD) : Loc nD τ sig := (SparseCore.T d).loc main_arg1
abbrev lLoc (d : Dev nD) : Loc nD τ sig := (SparseCore.T d).loc main_v58
abbrev o0Loc (d : Dev nD) : Loc nD τ sig := (SparseCore.T d).loc main_v59

/-- The table the call gathers from: an atom's edge features, in two rows of 128. -/
abbrev TA (d : Dev nD) : Buf (Elt F) (aLoc d) := shapeCast S10000x2x128 (m (eLoc d)) shapeCasts_S10000x16x16_S10000x2x128
/-- The list the call reads: the index array, row after row. -/
abbrev LI (d : Dev nD) : Buf (Elt F) (lLoc d) := shapeCast S1x160000 (m (bLoc d)) shapeCasts_S10000x16_S1x160000
/-- The rows gathered. -/
abbrev G0 (d : Dev nD) : Buf (Elt F) (o0Loc d) := gath (TA m d) (LI m d)

abbrev o0V : Memref sig .scVector .hbm S160000x2x128 .f32 := Memref.whole main_v59_scv

/-- A tile's share of what all tiles read. -/
def tq (L : grid0.Coords) : PosShare TreeShare :=
  pieceOf (pieceOf fullShare 2 (by decide) (L 0)) 16 (by decide) (L 1)

abbrev cT (L : grid0.Coords) : Fin τ.nSC := (L 0).castLE hcore0
abbrev jT (L : grid0.Coords) : Fin τ.nSub := (L 1).castLE hsub0

/-- What a tile holds. -/
def Part0 (d : Dev nD) (L : grid0.Coords) (f : Buf (Elt F) (o0Loc d)) : sProp 𝕄 :=
  iprop((aLoc d ↦{tq L} TA m d) ∗ (lLoc d ↦{tq L} LI m d) ∗ OBlks d (cT L) (jT L) o0V (st L) (st L + nn L) f)

instance Part0_storable (d : Dev nD) (L : grid0.Coords) (f : Buf (Elt F) (o0Loc d)) : BI.Storable (upEmb : UEmb _ 𝕄) (Part0 m d L f) := by
  unfold Part0 OBlks OPts; infer_instance

def coordsV (c : Fin 2) (s : Fin 16) : grid0.Coords :=
  fun | 0 => c | 1 => s | ⟨_ + 2, h⟩ => absurd h (Nat.not_lt.2 (Nat.le_add_left _ _))

def P : (K (F := F)).Pay (nD := nD) (Val := Elt F) (Name := ℕ) (U := UU) where
  st := fun q d c => match q with
    | 0 => bigSep Finset.univ fun s : Fin 16 => Part0 m d (coordsV c s) (m (o0Loc d))
  dn := fun q d c => match q with
    | 0 => bigSep Finset.univ fun s : Fin 16 => Part0 m d (coordsV c s) (G0 m d)
  go := fun q d c s => match q with
    | 0 => Part0 m d (coordsV c s) (m (o0Loc d))
  td := fun q d c s => match q with
    | 0 => Part0 m d (coordsV c s) (G0 m d)
  x := fun _ _ => iprop(emp)

instance P_storable : (P (F := F) m).IsStorable where
  st q d c := match q with
    | 0 => (inferInstance : BI.Storable (upEmb : UEmb _ 𝕄) (bigSep Finset.univ fun s : Fin 16 => Part0 m d (coordsV c s) (m (o0Loc d))))
  dn q d c := match q with
    | 0 => (inferInstance : BI.Storable (upEmb : UEmb _ 𝕄) (bigSep Finset.univ fun s : Fin 16 => Part0 m d (coordsV c s) (G0 m d)))
  go q d c s := match q with
    | 0 => Part0_storable m d (coordsV c s) (m (o0Loc d))
  td q d c s := match q with
    | 0 => Part0_storable m d (coordsV c s) (G0 m d)

theorem vecSplit0 : (K (F := F)).VecSplit' (P m) 0 := by
  intro d c
  show (bigSep Finset.univ fun s : Fin 16 => Part0 m d (coordsV c s) (m (o0Loc d))) ⊢ |={Set.univ}=> iprop(
    (bigSep Finset.univ fun s : Fin 16 => Part0 m d (coordsV c s) (m (o0Loc d)))
      ∗ ((bigSep Finset.univ fun s : Fin 16 => Part0 m d (coordsV c s) (G0 m d)) -∗ bigSep Finset.univ fun s : Fin 16 => Part0 m d (coordsV c s) (G0 m d)))
  iintro H; imodintro
  isplitl [H]; · iexact H
  iintro H; iexact H

/-- What the proof asks of the launch memory: every row number is below the table's 10000 rows. -/
def PreOK : Prop := ∀ (d : Dev nD) (x : S10000x16.Idx), (m (bLoc d) x : BitVec 32).toNat < 10000

theorem inRange_of (h : PreOK m) (d : Dev nD) : InRange (LI m d) := fun y => h d _

end Cert.Proof.Tile
-- ==== Proof.Tile.lean ====
/-
  A trip of a tile and the whole tile.
-/
module

public import proofs.«01_k».proof.Proof.Trip

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (i : grid0.Coords)

abbrev cV0 : Fin τ.nSC := (i 0).castLE hcore0
abbrev jV0 : Fin τ.nSub := (i 1).castLE hsub0

variable (A : Memref sig .scVector .vmem S2x1x128 .i32) (hA : A.IsWhole) (B : Memref sig .scVector .vmem S2x128x2x128 .f32) (hB : B.IsWhole)
variable (O : Memref sig .scVector .hbm S160000x2x128 .f32) (hO : O.IsWhole) (sI sQ : DmaSems sig S2) (s4 s5 : DmaSems sig S_)
variable (fT : Buf (Elt F) ((tV).view.loc (V d (cV0 i) (jV0 i)))) (fI : Buf (Elt F) ((iV).view.loc (V d (cV0 i) (jV0 i))))
variable (gO f0 : Buf (Elt F) (O.view.loc (V d (cV0 i) (jV0 i))))

set_option maxHeartbeats 4000000 in
theorem trip0 (qs : Fin 2 → PosShare TreeShare) (qt : PosShare TreeShare) (Oc : CellTallies nD τ sig (HIx 1)) (W : Waits sig (HIx 1)) (hOc : ∀ g, Oc g none = 0)
    (hcr : ∀ (h : S10000x2x128.Gathers 0 S128x2x128) (p' : Fin 2), ∑ r, ((qSlot B p').slice (S128x2x128.rowRect h.axis' r) (S128x2x128.stride_rowRect h.axis' r)).view.dmaCredit
      = (qSlot B p').view.dmaCredit) (hpre : InRange fI)
    (hgO : ∀ y, O.view.read (Elt F) gO y = gath fT fI y) (h1 : k0_cond1 i = 1#1) (v11 v41 v45 : BitVec 32) (k : Fin (k0_t1_loop i).trips) :
    iprop(levAts (K (F := F)).L (K (F := F)).lev ∗ Inv d (cV0 i) (jV0 i) A B O sI sQ fT fI gO qs qt s4.sem (st i) (nn i) f0 Oc W k.val) ⊢
      wp frame (wpE (defs₀ (F := F)) 𝒱₀ (V d (cV0 i) (jV0 i)) none) Set.univ
        (k0_t1_body i tV (Memref.isWhole_whole _) iV (Memref.isWhole_whole _) O hO A hA sI B hB sQ s4 s5
          (v5w i) (v10w i) v11 h1 v41 0#32 0#32 0#32 0#32 0#32 v45 k (canon i k.val))
        (fun acc => iprop(⌜acc = canon i (k.val + 1)⌝ ∗ levAts (K (F := F)).L (K (F := F)).lev ∗ Inv d (cV0 i) (jV0 i) A B O sI sQ fT fI gO qs qt s4.sem (st i) (nn i) f0 Oc W (k.val + 1))) := by
  have hk : k.val < nn i := k0_trips1 i ▸ k.isLt
  have h4 := k0_cond4_eq i k
  have h7 := k0_cond7_eq i k
  have h3 := k0_cond3_eq i k
  have h9 := k0_cond9_eq i k
  rw [show canon i k.val = (w6 i k.val, BitVec.ofNat 32 k.val, BitVec.ofNat 32 k.val, w9 k.val, BitVec.ofNat 32 k.val) by
    unfold canon w10; rw [if_neg (by omega)]]
  have hk40 : k.val < 40 := lt_of_lt_of_le hk (nn_le i)
  have h1250 := st_add_nn i
  unfold k0_t1_body
  simp only [k0_part3_eq_skeleton]
  unfold k0_part3_skel
  simp only [k0_part1_eq_skeleton, k0_part2_eq_skeleton]
  unfold k0_part1_skel k0_part2_skel
  simp only [h4, h7, ↓reduceDIte, ite_self, pure_bind, bind_assoc]
  unfold Inv
  rw [if_pos hk]
  iintro ⟨#Hlv, HI, HI', HQ', HQ, Hdone, Hrest, Ht, H4, HO⟩
  iapply (assumeStep d (cV0 i) (jV0 i) (k0_chk3_all i k))
  iapply (assumeStep d (cV0 i) (jV0 i) (k0_chk2_all i k))
  iapply (assumeStep d (cV0 i) (jV0 i) (k0_chk1_all i k))
  -- the next block's row numbers
  ihave HI' := (show _ ⊢ (if k.val + 1 < nn i then _ else IFree d (cV0 i) (jV0 i) A sI fI (qs (sl (k.val + 1))) (sl (k.val + 1))) from
    Entails.of_eq (ite_self _).symm) $$ HI'
  iapply (ifStep d (cV0 i) (jV0 i) h3 fun h ht k' => issueI (k := k') d (cV0 i) (jV0 i) A sI fI (qs (sl (k.val + 1))) (sl (k.val + 1)) (st i + (k.val + 1))
    (by unfold w6; rw [min_eq_left (by omega)]; exact offAt k0_off4 at3 k0_off4_val (k.val + 1) (by omega))
    (k0_off5_val i k ht)
    (by unfold w6; rw [min_eq_left (by omega)]; exact offAt k0_off6 at1 k0_off6_val (k.val + 1) (by omega)) (by omega)) $$ HI'
  iintro HI'
  simp only [bind_assoc, pure_bind]
  -- this block's
  iapply (waitI d (cV0 i) (jV0 i) A sI fI (qs (sl k.val)) (sl k.val) (st i + k.val) hOc (offAt k0_off9 at1 k0_off9_val (k.val) (by omega))) $$ [HI HO]
  · isplitr; · iexact Hlv
    isplitl [HI]; · iexact HI
    iexact HO
  iintro ⟨HI, HO⟩
  -- the rows they name
  iapply (issueG d (cV0 i) (jV0 i) A B sI sQ fT fI (qs (sl k.val)) qt (sl k.val) (sl k.val) (st i + k.val) (st i + k.val) (hcr _) hpre
    (offAt k0_off10 at4 k0_off10_val (k.val) (by omega)) (offAt k0_off11 at3 k0_off11_val (k.val) (by omega)) rfl) $$ [HI HQ Ht H4]
  · isplitl [HI]; · iexact HI
    isplitl [HQ]; · iexact HQ
    isplitl [Ht]; · iexact Ht
    iexact H4
  iintro HG
  iapply (waitG d (cV0 i) (jV0 i) A B sI sQ fT fI (qs (sl k.val)) qt (sl k.val) (sl k.val) (st i + k.val) (st i + k.val) hOc) $$ [HG HO]
  · isplitr; · iexact Hlv
    isplitl [HG]; · iexact HG
    iexact HO
  iintro ⟨HI, HQ, Ht, H4, HO⟩
  -- on their way out
  ihave Hrest := (Entails.of_eq (OBlks_head d (cV0 i) (jV0 i) O (show st i + k.val < st i + nn i by omega) f0)) $$ Hrest
  icases Hrest with ⟨Hb, Hrest⟩
  iapply (issueO d (cV0 i) (jV0 i) B O sQ fT fI gO (sl k.val) (st i + k.val) f0 (offAt k0_off12 at4 k0_off12_val (k.val) (by omega)) (by exact k0_off13_val i k)
    (offAt k0_off14 at1 k0_off14_val (k.val) (by omega)) (by omega) hgO) $$ [HQ Hb]
  · isplitl [HQ] <;> iassumption
  iintro HQ
  -- the block before, out
  ihave HW := (outPre d (cV0 i) (jV0 i) B O sQ gO (k := k.val) (b₀ := st i)) $$ [HQ' HO]
  · isplitr; · iexact Hlv
    isplitl [HQ'] <;> iassumption
  iapply (ifStep d (cV0 i) (jV0 i) (t := ¬ k.val = 0) (by rw [h9]; by_cases h : k.val = 0 <;> simp [h])
    fun h ht k' => waitO (k := k') d (cV0 i) (jV0 i) B O sQ gO (sl (k.val + 1)) (st i + (k.val - 1)) hOc
      (by rw [← sl_pred (by omega)]; exact offAt k0_off17 at1 k0_off17_val (k.val - 1) (by omega))) $$ HW
  iintro HW
  ihave HW := (outPost d (cV0 i) (jV0 i) B O sQ gO (k := k.val) (b₀ := st i)) $$ [HW Hdone]
  · isplitl [HW] <;> iassumption
  icases HW with ⟨HQ', Hdone, HO⟩
  iapply (retStep d (cV0 i) (jV0 i))
  isplitr
  · ipureintro
    exact next_canon i ⟨k.val, hk40⟩ hk
  isplitr; · iexact Hlv
  isplitl [HI']; · iexact HI'
  isplitl [HI]; · rw [sl_add_two]; iexact HI
  isplitl [HQ]; · rw [if_neg (Nat.succ_ne_zero _), sl_add_two]; iexact HQ
  isplitl [HQ']; · iexact HQ'
  isplitl [Hdone]; · iexact Hdone
  isplitl [Hrest]; · iexact Hrest
  isplitl [Ht]; · iexact Ht
  isplitl [H4]; · iexact H4
  iexact HO

/-- The same, as the loop asks it. -/
theorem trips0 (qs : Fin 2 → PosShare TreeShare) (qt : PosShare TreeShare) (Oc : CellTallies nD τ sig (HIx 1)) (W : Waits sig (HIx 1)) (hOc : ∀ g, Oc g none = 0)
    (hcr : ∀ (h : S10000x2x128.Gathers 0 S128x2x128) (p' : Fin 2), ∑ r, ((qSlot B p').slice (S128x2x128.rowRect h.axis' r) (S128x2x128.stride_rowRect h.axis' r)).view.dmaCredit
      = (qSlot B p').view.dmaCredit) (hpre : InRange fI)
    (hgO : ∀ y, O.view.read (Elt F) gO y = gath fT fI y) (h1 : k0_cond1 i = 1#1) (v11 v41 v45 : BitVec 32) :
    ∀ (k : Fin (k0_t1_loop i).trips) (acc : BitVec 32 × BitVec 32 × BitVec 32 × BitVec 32 × BitVec 32),
    iprop(⌜acc = canon i k.val⌝ ∗ levAts (K (F := F)).L (K (F := F)).lev ∗ Inv d (cV0 i) (jV0 i) A B O sI sQ fT fI gO qs qt s4.sem (st i) (nn i) f0 Oc W k.val) ⊢
      wp frame (wpE (defs₀ (F := F)) 𝒱₀ (V d (cV0 i) (jV0 i)) none) Set.univ
        (k0_t1_body i tV (Memref.isWhole_whole _) iV (Memref.isWhole_whole _) O hO A hA sI B hB sQ s4 s5
          (v5w i) (v10w i) v11 h1 v41 0#32 0#32 0#32 0#32 0#32 v45 k acc)
        (fun acc => iprop(⌜acc = canon i (k.val + 1)⌝ ∗ levAts (K (F := F)).L (K (F := F)).lev ∗ Inv d (cV0 i) (jV0 i) A B O sI sQ fT fI gO qs qt s4.sem (st i) (nn i) f0 Oc W (k.val + 1))) := by
  intro k acc
  iintro ⟨%e, H⟩
  subst e
  iapply (trip0 d i A hA B hB O hO sI sQ s4 s5 fT fI gO f0 qs qt Oc W hOc hcr hpre hgO h1 v11 v41 v45 k) $$ H

/-- The kernel's block count and first block, from its coordinates. -/
theorem v5_eq0 : ∀ i : grid0.Coords, Scalar.select (Scalar.cmpi .slt (Scalar.addi (Scalar.addi 0#32 (Scalar.muli (BitVec.ofNat 32 (i 1).val) 1#32))
    (Scalar.muli (BitVec.ofNat 32 (i 0).val) 16#32)) 2#32) 40#32 39#32 = v5w i := by decide +kernel
theorem v10_eq0 : ∀ i : grid0.Coords, Scalar.select (Scalar.cmpi .slt (Scalar.addi (Scalar.addi 0#32 (Scalar.muli (BitVec.ofNat 32 (i 1).val) 1#32))
    (Scalar.muli (BitVec.ofNat 32 (i 0).val) 16#32)) 2#32)
    (Scalar.muli (Scalar.addi (Scalar.addi 0#32 (Scalar.muli (BitVec.ofNat 32 (i 1).val) 1#32)) (Scalar.muli (BitVec.ofNat 32 (i 0).val) 16#32)) (v5w i))
    (Scalar.addi (Scalar.muli (Scalar.addi (Scalar.addi 0#32 (Scalar.muli (BitVec.ofNat 32 (i 1).val) 1#32)) (Scalar.muli (BitVec.ofNat 32 (i 0).val) 16#32)) 39#32) 2#32)
    = v10w i := by decide +kernel
theorem canon_zero : ∀ i : grid0.Coords, (Scalar.select (Scalar.andi 1#1 (Scalar.cmpi .sgt (Scalar.muli 1#32 (v5w i)) 0#32)) (Scalar.addi 0#32 1#32) 0#32,
    0#32, 0#32, 0#32, 0#32) = canon i 0 := by decide +kernel

set_option maxHeartbeats 4000000 in
/-- The whole tile, from its slots at rest. -/
theorem core0 (qs : Fin 2 → PosShare TreeShare) (qt : PosShare TreeShare) (Oc : CellTallies nD τ sig (HIx 1)) (W : Waits sig (HIx 1)) (hOc : ∀ g, Oc g none = 0)
    (hcr : ∀ (h : S10000x2x128.Gathers 0 S128x2x128) (p' : Fin 2), ∑ r, ((qSlot B p').slice (S128x2x128.rowRect h.axis' r) (S128x2x128.stride_rowRect h.axis' r)).view.dmaCredit
      = (qSlot B p').view.dmaCredit) (hpre : InRange fI)
    (hgO : ∀ y, O.view.read (Elt F) gO y = gath fT fI y) :
    iprop(levAts (K (F := F)).L (K (F := F)).lev
        ∗ IFree d (cV0 i) (jV0 i) A sI fI (qs (sl 0)) (sl 0) ∗ IFree d (cV0 i) (jV0 i) A sI fI (qs (sl (0 + 1))) (sl (0 + 1))
        ∗ QFree d (cV0 i) (jV0 i) B sQ (sl (0 + 1)) ∗ QFree d (cV0 i) (jV0 i) B sQ (sl 0)
        ∗ OBlks d (cV0 i) (jV0 i) O (st i) (st i + nn i) f0
        ∗ ((tV).view.loc (V d (cV0 i) (jV0 i)) ↦{qt} fT) ∗ semVal (V d (cV0 i) (jV0 i), .dma s4.sem) 0 ∗ Ow d (cV0 i) (jV0 i) Oc W) ⊢
      wp frame (wpE (defs₀ (F := F)) 𝒱₀ (V d (cV0 i) (jV0 i)) none) Set.univ
        (cc0_gather_kernel i tV (Memref.isWhole_whole _) iV (Memref.isWhole_whole _) O hO A hA sI B hB sQ s4 s5)
        (fun _ => iprop(IFree d (cV0 i) (jV0 i) A sI fI (qs (sl (nn i))) (sl (nn i)) ∗ IFree d (cV0 i) (jV0 i) A sI fI (qs (sl (nn i + 1))) (sl (nn i + 1))
          ∗ QFree d (cV0 i) (jV0 i) B sQ (sl (nn i + 1)) ∗ QFree d (cV0 i) (jV0 i) B sQ (sl (nn i))
          ∗ OBlks d (cV0 i) (jV0 i) O (st i) (st i + nn i) gO
          ∗ ((tV).view.loc (V d (cV0 i) (jV0 i)) ↦{qt} fT) ∗ semVal (V d (cV0 i) (jV0 i), .dma s4.sem) 0 ∗ Ow d (cV0 i) (jV0 i) Oc W)) := by
  have h1 := k0_cond1_eq i
  have h2 := k0_cond2_eq i
  have h18 := k0_cond18_eq i
  have hn := nn_pos i
  have hn40 := nn_le i
  have h1250 := st_add_nn i
  simp only [cc0_gather_kernel_eq_skeleton, k0_part7_eq_skeleton, k0_part8_eq_skeleton]
  unfold cc0_gather_kernel_skel
  simp only [k0_part7_eq_skeleton, k0_part8_eq_skeleton]
  unfold k0_part7_skel k0_part8_skel
  simp only [v5_eq0, v10_eq0, h1, h2, h18, ↓reduceDIte, dite_eq_ite, ite_self, pure_bind, bind_assoc]
  iintro ⟨#Hlv, HI, HI', HQ', HQ, Hrest, Ht, H4, HO⟩
  iapply (issueI d (cV0 i) (jV0 i) A sI fI (qs (sl 0)) (sl 0) (st i + 0) (by exact k0_off1_eq)
    ((k0_off2_val i).trans (by rw [Nat.add_zero])) (by exact k0_off3_eq) (by omega)) $$ HI
  iintro HI
  rw [canon_zero]
  iapply (Scf.wp_for_bind (I := fun k acc => iprop(⌜acc = canon i k⌝ ∗ levAts (K (F := F)).L (K (F := F)).lev
      ∗ Inv d (cV0 i) (jV0 i) A B O sI sQ fT fI gO qs qt s4.sem (st i) (nn i) f0 Oc W k)) (hbody := ?hb)) $$ [HI HI' HQ' HQ Hrest Ht H4 HO]
  case hb => exact trips0 d i A hA B hB O hO sI sQ s4 s5 fT fI gO f0 qs qt Oc W hOc hcr hpre hgO h1 _ _ _
  · isplitr; · ipureintro; rfl
    isplitr; · iexact Hlv
    rw [inv_zero d (cV0 i) (jV0 i) A B O sI sQ fT fI gO hn]
    isplitl [HI]; · iexact HI
    isplitl [HI']; · iexact HI'
    isplitl [HQ']; · iexact HQ'
    isplitl [HQ]; · iexact HQ
    isplitr; · iempintro
    isplitl [Hrest]; · iexact Hrest
    isplitl [Ht]; · iexact Ht
    isplitl [H4]; · iexact H4
    iexact HO
  iintro %acc ⟨%e, -, HI⟩
  subst e
  rw [show Scf.trips (k0_t1_loop i).lb (k0_t1_loop i).ub (k0_t1_loop i).st = nn i from k0_trips1 i]
  iapply (Scf.wp_for_bind (I := fun k acc => iprop(⌜acc = canon i (nn i)⌝
      ∗ Inv d (cV0 i) (jV0 i) A B O sI sQ fT fI gO qs qt s4.sem (st i) (nn i) f0 Oc W (nn i))) (hbody := ?hb)) $$ [HI]
  case hb => intro k; exact absurd (k.isLt.trans_eq (k0_trips2 i)) (Nat.not_lt_zero _)
  · isplitr; · ipureintro; rfl
    iexact HI
  iintro %acc ⟨%e, HI⟩
  subst e
  simp only [canon]
  ihave HI := (Entails.of_eq (inv_last d (cV0 i) (jV0 i) A B O sI sQ fT fI gO hn)) $$ HI
  icases HI with ⟨HI, HI', HQ', HQ, Hdone, -, Ht, H4, HO⟩
  iapply (assumeStep d (cV0 i) (jV0 i) (k0_chk8_all i))
  iapply (assumeStep d (cV0 i) (jV0 i) (k0_chk7_all i))
  iapply (waitO d (cV0 i) (jV0 i) B O sQ gO (sl (nn i + 1)) (st i + (nn i - 1)) hOc
      (by rw [← sl_pred hn]; exact offAt k0_off34 at1 k0_off34_val (nn i - 1) (by omega))) $$ [HQ' HO]
  · isplitr; · iexact Hlv
    isplitl [HQ'] <;> iassumption
  iintro ⟨HQ', Hb, HO⟩
  ihave Hdone := (Entails.of_eq (OBlks_last d (cV0 i) (jV0 i) O (Nat.le_add_right (st i) (nn i - 1)) gO).symm) $$ [Hb Hdone]
  · isplitl [Hb] <;> iassumption
  iapply (retStep d (cV0 i) (jV0 i))
  isplitl [HI]; · iexact HI
  isplitl [HI']; · iexact HI'
  isplitl [HQ']; · iexact HQ'
  isplitl [HQ]; · iexact HQ
  isplitl [Hdone]; · rw [show st i + nn i = st i + (nn i - 1) + 1 by omega]; iexact Hdone
  isplitl [Ht]; · iexact Ht
  isplitl [H4]; · iexact H4
  iexact HO

end Cert.Proof.Tile
-- ==== Proof.Call0.lean ====
/-
  The gather call: its tile with the tile's own buffers and semaphores, and the obligation its launch asks.
-/
module

public import proofs.«01_k».proof.Proof.Pay
public import proofs.«01_k».proof.Proof.Tile

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

-- Nothing below looks inside the kernel.
attribute [local irreducible] cc0_gather_kernel

variable (m : (ℓ : Loc nD τ sig) → Buf (Elt F) ℓ)

abbrev i0V : Memref sig .scVector .vmem S2x1x128 .i32 := Memref.whole cc0_scoped0
abbrev q0V : Memref sig .scVector .vmem S2x128x2x128 .f32 := Memref.whole cc0_scoped2
abbrev sem0 : Fin 5 → DmaSem sig := ![semAt cc0_scoped1 0, semAt cc0_scoped1 1, semAt cc0_scoped3 0, semAt cc0_scoped3 1, cc0_scoped4.sem]

theorem sem0_scoped : ∀ a : Fin 5, (SemLoc.dma (sem0 a) : SemLoc sig).isScoped .scVector = true := by decide
theorem sem0_inj : Function.Injective sem0 := by decide

theorem credit0 : ∀ (h : S10000x2x128.Gathers 0 S128x2x128) (p' : Fin 2), ∑ r, ((qSlot q0V p').slice (S128x2x128.rowRect h.axis' r) (S128x2x128.stride_rowRect h.axis' r)).view.dmaCredit
      = (qSlot q0V p').view.dmaCredit := by decide +kernel

set_option maxHeartbeats 1000000 in
theorem tile0 (d : Dev nD) (L : grid0.Coords) (hpre : PreOK m) (Oc : CellTallies nD τ sig (HIx 1)) (W : Waits sig (HIx 1)) (hOc : ∀ g, Oc g none = 0) :
    iprop(levAts (K (F := F)).L (K (F := F)).lev ∗ emp ∗ Part0 m d L (m (o0Loc d))
        ∗ scopedBufs (V d (cT L) (jT L)) ∗ scopedSems0 (V d (cT L) (jT L)) ∗ owes (V d (cT L) (jT L)) Oc W)
      ⊢ wp frame (wpE (defs₀ (F := F)) 𝒱₀ (V d (cT L) (jT L)) none) Set.univ
          (cc0_gather_kernel L tV (Memref.isWhole_whole _) iV (Memref.isWhole_whole _) o0V (Memref.isWhole_whole _)
            i0V (Memref.isWhole_whole _) cc0_scoped1 q0V (Memref.isWhole_whole _) cc0_scoped3 cc0_scoped4 cc0_scoped5)
          fun _ => iprop(Part0 m d L (G0 m d) ∗ scopedBufs (V d (cT L) (jT L)) ∗ scopedSems0 (V d (cT L) (jT L))
            ∗ ∃ W', ⌜∀ p ∈ W', p ∈ W ∨ p.2 = none ∨ p.2 = some 0⌝ ∗ owes (V d (cT L) (jT L)) Oc W') := by
  have hA : (i0V).view.set = Finset.univ := View.set_whole _
  have hB : (q0V).view.set = Finset.univ := View.set_whole _
  have hI := slotsI i0V d (cT L) (jT L) cc0_scoped1 (LI m d) hA (tq L)
  have hQ := slotsQ (F := F) q0V d (cT L) (jT L) cc0_scoped3 hB
  rw [(K (F := F)).scopedBufs_V facts d (cT L) (jT L), SparseCore.Cfg.scopedSems0_V (Val := Elt F) d (cT L) (jT L),
    ownSems0_split d (cT L) (jT L) sem0 sem0_scoped sem0_inj,
    ownBufs_split d (cT L) (jT L) cc0_scoped0 cc0_scoped2 (by decide) rfl rfl]
  unfold Part0
  iintro ⟨#Hlv, -, ⟨Ha, Hl, Hb⟩, ⟨HA, HB, Hbufs⟩, ⟨⟨Hs0, Hs1, Hs2, Hs3, Hs4⟩, Hsems⟩, HO⟩
  ihave HI := hI.1 $$ [HA Hl Hs0 Hs1]
  · isplitl [HA]; · iexact HA
    isplitl [Hl]; · iexact Hl
    isplitl [Hs0]; · iexact Hs0
    iexact Hs1
  icases HI with ⟨HI, HI'⟩
  ihave HQ := hQ.1 $$ [HB Hs2 Hs3]
  · isplitl [HB]; · iexact HB
    isplitl [Hs2]; · iexact Hs2
    iexact Hs3
  icases HQ with ⟨HQ, HQ'⟩
  iapply (wp_wand_r frame _ _)
  isplitl [Ha HI HI' HQ HQ' Hb Hs4 HO]
  · iapply (core0 d L i0V (Memref.isWhole_whole _) q0V (Memref.isWhole_whole _) o0V (Memref.isWhole_whole _) cc0_scoped1 cc0_scoped3 cc0_scoped4 cc0_scoped5
      (TA m d) (LI m d) (G0 m d) (m (o0Loc d)) (half (tq L)) (tq L) Oc W hOc credit0 (inRange_of m hpre d) (fun _ => rfl))
    isplitr; · iexact Hlv
    isplitl [HI]; · iexact HI
    isplitl [HI']; · iexact HI'
    isplitl [HQ']; · iexact HQ'
    isplitl [HQ]; · iexact HQ
    isplitl [Hb]; · iexact Hb
    isplitl [Ha]; · iexact Ha
    isplitl [Hs4]; · iexact Hs4
    unfold Ow
    iexists W
    isplitr
    · ipureintro; exact fun p hp => .inl hp
    · iexact HO
  iintro %_ ⟨HI, HI', HQ', HQ, Hb, Ha, Hs4, HO⟩
  ihave HI := (two_slots (fun p => IFree d (cT L) (jT L) i0V cc0_scoped1 (LI m d) (half (tq L) p) p) (nn L)) $$ [HI HI']
  · isplitl [HI] <;> iassumption
  ihave HI := hI.2 $$ HI
  ihave HQ := (two_slots (fun p => QFree (F := F) d (cT L) (jT L) q0V cc0_scoped3 p) (nn L)) $$ [HQ HQ']
  · isplitl [HQ] <;> iassumption
  ihave HQ := hQ.2 $$ HQ
  icases HI with ⟨HA, Hl, Hs0, Hs1⟩
  icases HQ with ⟨HB, Hs2, Hs3⟩
  isplitl [Ha Hl Hb]
  · isplitl [Ha]; · iexact Ha
    isplitl [Hl]; · iexact Hl
    iexact Hb
  isplitl [HA HB Hbufs]
  · isplitl [HA]; · iexact HA
    isplitl [HB]; · iexact HB
    iexact Hbufs
  isplitl [Hs0 Hs1 Hs2 Hs3 Hs4 Hsems]
  · isplitr [Hsems]
    · isplitl [Hs0]; · iexact Hs0
      isplitl [Hs1]; · iexact Hs1
      isplitl [Hs2]; · iexact Hs2
      isplitl [Hs3]; · iexact Hs3
      iexact Hs4
    · iexact Hsems
  unfold Ow
  icases HO with ⟨%W', %hW', HO⟩
  iexists W'; isplitr
  · ipureintro; exact fun p hp => (hW' p hp).imp_right Or.inl
  · iexact HO

theorem defs₀_vector0 (c : Fin τ.nSC) (s : Fin τ.nSub) :
    defs₀ (F := F) (.scVector c s) 0 ()
      = SparseCore.onTile hcore0 hsub0 (fun c s => cc0_gather_kernel (coordsV c s) tV (Memref.isWhole_whole _) iV (Memref.isWhole_whole _) o0V (Memref.isWhole_whole _)
            i0V (Memref.isWhole_whole _) cc0_scoped1 q0V (Memref.isWhole_whole _) cc0_scoped3 cc0_scoped4 cc0_scoped5) ⟨⟩ c s := rfl

set_option maxRecDepth 16384 in
theorem tileObl0 (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact @tile0 F _ m d (coordsV ⟨_, hci.1⟩ ⟨_, hci.2⟩) hpre O W hO

end Cert.Proof.Tile
-- ==== Proof.Prep.lean ====
/-
  The host operations before the calls: the line as a list, and what it leaves in the buffers the calls read — the
  tables reshaped, and the weights laid out block-diagonally.
-/
module

public import proofs.«01_k».proof.Proof.Gen.KernelIdeal
public import Idealize.ShloMosaic.Lib.StableHlo.Run

@[expose] public section

noncomputable section

namespace Cert.Proof.Prep

open Cert.KernelIdeal Cert.KernelIdeal.Gen
open Idealize.ShloMosaic Idealize.ShloMosaic.TcCoe Idealize.SL.Sem Idealize.ShloMosaic.StableHlo

variable {F : FTy → Type} [FloatOps F]

def fn_main_v21 : (⟨S256x256, .f32⟩ : BufTy).Contents (Elt F) → (⟨S256x256, .f32⟩ : BufTy).Contents (Elt F) → (⟨S256x512, .f32⟩ : BufTy).Contents (Elt F) :=
  (fun a b => concatenate S256x512 1 [⟨S256x256, a⟩, ⟨S256x256, b⟩] concatenates_S256x256_S256x256_S256x512_d1)

def fn_main_v28 : (⟨S256x256, .f32⟩ : BufTy).Contents (Elt F) → (⟨S256x256, .f32⟩ : BufTy).Contents (Elt F) → (⟨S256x512, .f32⟩ : BufTy).Contents (Elt F) :=
  (fun a b => concatenate S256x512 1 [⟨S256x256, a⟩, ⟨S256x256, b⟩] concatenates_S256x256_S256x256_S256x512_d1)

def fn_main_v36 : (⟨S16x256, .f32⟩ : BufTy).Contents (Elt F) → (⟨S16x256, .f32⟩ : BufTy).Contents (Elt F) → (⟨S16x512, .f32⟩ : BufTy).Contents (Elt F) :=
  (fun a b => concatenate S16x512 1 [⟨S16x256, a⟩, ⟨S16x256, b⟩] concatenates_S16x256_S16x256_S16x512_d1)

def rows4 (a b c d : (⟨S1x256, .f32⟩ : BufTy).Contents (Elt F)) : (⟨S4x256, .f32⟩ : BufTy).Contents (Elt F) :=
  concatenate S4x256 0 [⟨S1x256, a⟩, ⟨S1x256, b⟩, ⟨S1x256, c⟩, ⟨S1x256, d⟩] concatenates_S1x256_S1x256_S1x256_S1x256_S4x256_d0

/-- The operations before the calls, a called function's in its call's place. -/
abbrev ops : List (HloOp τ sig (Elt F)) :=
  [ nullary main_v0 (iotaInDim S16x16 32 0),
    nullary main_v1 (iotaInDim S16x16 32 1),
    nullary main_c (constantI S_ 32 0#32),
    unary main_c main_v2 (broadcastInDim S16x16 ![] bcast_S_S16x16 : (⟨S_, .i32⟩ : BufTy).Contents (Elt F) → (⟨S16x16, .i32⟩ : BufTy).Contents (Elt F)),
    binary main_v0 main_v2 main_v3 (addi : (⟨S16x16, .i32⟩ : BufTy).Contents (Elt F) → (⟨S16x16, .i32⟩ : BufTy).Contents (Elt F) → (⟨S16x16, .i32⟩ : BufTy).Contents (Elt F)),
    binary main_v3 main_v1 main_v4 (cmpi .eq : (⟨S16x16, .i32⟩ : BufTy).Contents (Elt F) → (⟨S16x16, .i32⟩ : BufTy).Contents (Elt F) → (⟨S16x16, .i1⟩ : BufTy).Contents (Elt F)),
    unary main_v4 main_v5 (uitofp .f32 : (⟨S16x16, .i1⟩ : BufTy).Contents (Elt F) → (⟨S16x16, .f32⟩ : BufTy).Contents (Elt F)),
    unary main_arg5 main_v6 ((extractStridedSlice S16x16 ![0, 0] · slices_S48x16_S16x16_0_0) : (⟨S48x16, .f32⟩ : BufTy).Contents (Elt F) → (⟨S16x16, .f32⟩ : BufTy).Contents (Elt F)),
    unary main_arg5 main_v7 ((extractStridedSlice S16x16 ![16, 0] · slices_S48x16_S16x16_16_0) : (⟨S48x16, .f32⟩ : BufTy).Contents (Elt F) → (⟨S16x16, .f32⟩ : BufTy).Contents (Elt F)),
    unary main_arg5 main_v8 ((extractStridedSlice S16x16 ![32, 0] · slices_S48x16_S16x16_32_0) : (⟨S48x16, .f32⟩ : BufTy).Contents (Elt F) → (⟨S16x16, .f32⟩ : BufTy).Contents (Elt F)),
    unary main_arg3 main_v9 ((extractStridedSlice S16x1 ![0, 0] · slices_S48x1_S16x1_0_0) : (⟨S48x1, .f32⟩ : BufTy).Contents (Elt F) → (⟨S16x1, .f32⟩ : BufTy).Contents (Elt F)),
    reshape main_v9 main_v10 (rfl : (.f32 : EltTy) = .f32) shapeCasts_S16x1_S16,
    unary main_arg3 main_v11 ((extractStridedSlice S16x1 ![16, 0] · slices_S48x1_S16x1_16_0) : (⟨S48x1, .f32⟩ : BufTy).Contents (Elt F) → (⟨S16x1, .f32⟩ : BufTy).Contents (Elt F)),
    reshape main_v11 main_v12 (rfl : (.f32 : EltTy) = .f32) shapeCasts_S16x1_S16,
    unary main_arg3 main_v13 ((extractStridedSlice S16x1 ![32, 0] · slices_S48x1_S16x1_32_0) : (⟨S48x1, .f32⟩ : BufTy).Contents (Elt F) → (⟨S16x1, .f32⟩ : BufTy).Contents (Elt F)),
    reshape main_v13 main_v14 (rfl : (.f32 : EltTy) = .f32) shapeCasts_S16x1_S16,
    TRef.unary (TRef.of (T := ⟨S16x16, .f32⟩) main_v5) (TRef.of (T := ⟨S16x1x16x1, .f32⟩) main_call0_v0) (broadcastInDim S16x1x16x1 ![0, 2] bcast_S16x16_S16x1x16x1_0_2),
    TRef.unary (TRef.of (T := ⟨S16x16, .f32⟩) main_v8) (TRef.of (T := ⟨S1x16x1x16, .f32⟩) main_call0_v1) (broadcastInDim S1x16x1x16 ![1, 3] bcast_S16x16_S1x16x1x16_1_3),
    TRef.unary (TRef.of (T := ⟨S16x1x16x1, .f32⟩) main_call0_v0) (TRef.of (T := ⟨S16x16x16x16, .f32⟩) main_call0_v2) (broadcastInDim S16x16x16x16 ![0, 1, 2, 3] bcast_S16x1x16x1_S16x16x16x16_0_1_2_3),
    TRef.unary (TRef.of (T := ⟨S1x16x1x16, .f32⟩) main_call0_v1) (TRef.of (T := ⟨S16x16x16x16, .f32⟩) main_call0_v3) (broadcastInDim S16x16x16x16 ![0, 1, 2, 3] bcast_S1x16x1x16_S16x16x16x16_0_1_2_3),
    TRef.binary (TRef.of (T := ⟨S16x16x16x16, .f32⟩) main_call0_v2) (TRef.of (T := ⟨S16x16x16x16, .f32⟩) main_call0_v3) (TRef.of (T := ⟨S16x16x16x16, .f32⟩) main_call0_v4) mulf,
    TRef.reshape (TRef.of (T := ⟨S16x16x16x16, .f32⟩) main_call0_v4) (TRef.of (T := ⟨S256x256, .f32⟩) main_v15) (rfl : (.f32 : EltTy) = .f32) shapeCasts_S16x16x16x16_S256x256,
    unary main_v14 main_v16 (broadcastInDim S16x1 ![0] bcast_S16_S16x1_0 : (⟨S16, .f32⟩ : BufTy).Contents (Elt F) → (⟨S16x1, .f32⟩ : BufTy).Contents (Elt F)),
    reshape main_v16 main_v17 (rfl : (.f32 : EltTy) = .f32) shapeCasts_S16x1_S1x16x1x1,
    unary main_v17 main_v18 (broadcastInDim S1x16x16x1 ![0, 1, 2, 3] bcast_S1x16x1x1_S1x16x16x1_0_1_2_3 : (⟨S1x16x1x1, .f32⟩ : BufTy).Contents (Elt F) → (⟨S1x16x16x1, .f32⟩ : BufTy).Contents (Elt F)),
    reshape main_v18 main_v19 (rfl : (.f32 : EltTy) = .f32) shapeCasts_S1x16x16x1_S16x16,
    TRef.unary (TRef.of (T := ⟨S16x16, .f32⟩) main_v5) (TRef.of (T := ⟨S16x1x16x1, .f32⟩) main_call1_v0) (broadcastInDim S16x1x16x1 ![0, 2] bcast_S16x16_S16x1x16x1_0_2),
    TRef.unary (TRef.of (T := ⟨S16x16, .f32⟩) main_v19) (TRef.of (T := ⟨S1x16x1x16, .f32⟩) main_call1_v1) (broadcastInDim S1x16x1x16 ![1, 3] bcast_S16x16_S1x16x1x16_1_3),
    TRef.unary (TRef.of (T := ⟨S16x1x16x1, .f32⟩) main_call1_v0) (TRef.of (T := ⟨S16x16x16x16, .f32⟩) main_call1_v2) (broadcastInDim S16x16x16x16 ![0, 1, 2, 3] bcast_S16x1x16x1_S16x16x16x16_0_1_2_3),
    TRef.unary (TRef.of (T := ⟨S1x16x1x16, .f32⟩) main_call1_v1) (TRef.of (T := ⟨S16x16x16x16, .f32⟩) main_call1_v3) (broadcastInDim S16x16x16x16 ![0, 1, 2, 3] bcast_S1x16x1x16_S16x16x16x16_0_1_2_3),
    TRef.binary (TRef.of (T := ⟨S16x16x16x16, .f32⟩) main_call1_v2) (TRef.of (T := ⟨S16x16x16x16, .f32⟩) main_call1_v3) (TRef.of (T := ⟨S16x16x16x16, .f32⟩) main_call1_v4) mulf,
    TRef.reshape (TRef.of (T := ⟨S16x16x16x16, .f32⟩) main_call1_v4) (TRef.of (T := ⟨S256x256, .f32⟩) main_v20) (rfl : (.f32 : EltTy) = .f32) shapeCasts_S16x16x16x16_S256x256,
    binary main_v15 main_v20 main_v21 fn_main_v21,
    TRef.unary (TRef.of (T := ⟨S16x16, .f32⟩) main_v5) (TRef.of (T := ⟨S16x1x16x1, .f32⟩) main_call2_v0) (broadcastInDim S16x1x16x1 ![0, 2] bcast_S16x16_S16x1x16x1_0_2),
    TRef.unary (TRef.of (T := ⟨S16x16, .f32⟩) main_v7) (TRef.of (T := ⟨S1x16x1x16, .f32⟩) main_call2_v1) (broadcastInDim S1x16x1x16 ![1, 3] bcast_S16x16_S1x16x1x16_1_3),
    TRef.unary (TRef.of (T := ⟨S16x1x16x1, .f32⟩) main_call2_v0) (TRef.of (T := ⟨S16x16x16x16, .f32⟩) main_call2_v2) (broadcastInDim S16x16x16x16 ![0, 1, 2, 3] bcast_S16x1x16x1_S16x16x16x16_0_1_2_3),
    TRef.unary (TRef.of (T := ⟨S1x16x1x16, .f32⟩) main_call2_v1) (TRef.of (T := ⟨S16x16x16x16, .f32⟩) main_call2_v3) (broadcastInDim S16x16x16x16 ![0, 1, 2, 3] bcast_S1x16x1x16_S16x16x16x16_0_1_2_3),
    TRef.binary (TRef.of (T := ⟨S16x16x16x16, .f32⟩) main_call2_v2) (TRef.of (T := ⟨S16x16x16x16, .f32⟩) main_call2_v3) (TRef.of (T := ⟨S16x16x16x16, .f32⟩) main_call2_v4) mulf,
    TRef.reshape (TRef.of (T := ⟨S16x16x16x16, .f32⟩) main_call2_v4) (TRef.of (T := ⟨S256x256, .f32⟩) main_v22) (rfl : (.f32 : EltTy) = .f32) shapeCasts_S16x16x16x16_S256x256,
    unary main_v12 main_v23 (broadcastInDim S16x1 ![0] bcast_S16_S16x1_0 : (⟨S16, .f32⟩ : BufTy).Contents (Elt F) → (⟨S16x1, .f32⟩ : BufTy).Contents (Elt F)),
    reshape main_v23 main_v24 (rfl : (.f32 : EltTy) = .f32) shapeCasts_S16x1_S1x16x1x1,
    unary main_v24 main_v25 (broadcastInDim S1x16x16x1 ![0, 1, 2, 3] bcast_S1x16x1x1_S1x16x16x1_0_1_2_3 : (⟨S1x16x1x1, .f32⟩ : BufTy).Contents (Elt F) → (⟨S1x16x16x1, .f32⟩ : BufTy).Contents (Elt F)),
    reshape main_v25 main_v26 (rfl : (.f32 : EltTy) = .f32) shapeCasts_S1x16x16x1_S16x16,
    TRef.unary (TRef.of (T := ⟨S16x16, .f32⟩) main_v5) (TRef.of (T := ⟨S16x1x16x1, .f32⟩) main_call3_v0) (broadcastInDim S16x1x16x1 ![0, 2] bcast_S16x16_S16x1x16x1_0_2),
    TRef.unary (TRef.of (T := ⟨S16x16, .f32⟩) main_v26) (TRef.of (T := ⟨S1x16x1x16, .f32⟩) main_call3_v1) (broadcastInDim S1x16x1x16 ![1, 3] bcast_S16x16_S1x16x1x16_1_3),
    TRef.unary (TRef.of (T := ⟨S16x1x16x1, .f32⟩) main_call3_v0) (TRef.of (T := ⟨S16x16x16x16, .f32⟩) main_call3_v2) (broadcastInDim S16x16x16x16 ![0, 1, 2, 3] bcast_S16x1x16x1_S16x16x16x16_0_1_2_3),
    TRef.unary (TRef.of (T := ⟨S1x16x1x16, .f32⟩) main_call3_v1) (TRef.of (T := ⟨S16x16x16x16, .f32⟩) main_call3_v3) (broadcastInDim S16x16x16x16 ![0, 1, 2, 3] bcast_S1x16x1x16_S16x16x16x16_0_1_2_3),
    TRef.binary (TRef.of (T := ⟨S16x16x16x16, .f32⟩) main_call3_v2) (TRef.of (T := ⟨S16x16x16x16, .f32⟩) main_call3_v3) (TRef.of (T := ⟨S16x16x16x16, .f32⟩) main_call3_v4) mulf,
    TRef.reshape (TRef.of (T := ⟨S16x16x16x16, .f32⟩) main_call3_v4) (TRef.of (T := ⟨S256x256, .f32⟩) main_v27) (rfl : (.f32 : EltTy) = .f32) shapeCasts_S16x16x16x16_S256x256,
    binary main_v22 main_v27 main_v28 fn_main_v28,
    reshape main_v6 main_v29 (rfl : (.f32 : EltTy) = .f32) shapeCasts_S16x16_S1x16x1x16,
    unary main_v29 main_v30 (broadcastInDim S1x16x16x16 ![0, 1, 2, 3] bcast_S1x16x1x16_S1x16x16x16_0_1_2_3 : (⟨S1x16x1x16, .f32⟩ : BufTy).Contents (Elt F) → (⟨S1x16x16x16, .f32⟩ : BufTy).Contents (Elt F)),
    reshape main_v30 main_v31 (rfl : (.f32 : EltTy) = .f32) shapeCasts_S1x16x16x16_S16x256,
    unary main_v10 main_v32 (broadcastInDim S16x1 ![0] bcast_S16_S16x1_0 : (⟨S16, .f32⟩ : BufTy).Contents (Elt F) → (⟨S16x1, .f32⟩ : BufTy).Contents (Elt F)),
    reshape main_v32 main_v33 (rfl : (.f32 : EltTy) = .f32) shapeCasts_S16x1_S1x16x1x1,
    unary main_v33 main_v34 (broadcastInDim S1x16x256x1 ![0, 1, 2, 3] bcast_S1x16x1x1_S1x16x256x1_0_1_2_3 : (⟨S1x16x1x1, .f32⟩ : BufTy).Contents (Elt F) → (⟨S1x16x256x1, .f32⟩ : BufTy).Contents (Elt F)),
    reshape main_v34 main_v35 (rfl : (.f32 : EltTy) = .f32) shapeCasts_S1x16x256x1_S16x256,
    binary main_v31 main_v35 main_v36 fn_main_v36,
    nullary main_cst (constant S_ .f32 0x3D800000#32),
    unary main_cst main_v37 (broadcastInDim S16x16 ![] bcast_S_S16x16 : (⟨S_, .f32⟩ : BufTy).Contents (Elt F) → (⟨S16x16, .f32⟩ : BufTy).Contents (Elt F)),
    TRef.unary (TRef.of (T := ⟨S16x16, .f32⟩) main_v5) (TRef.of (T := ⟨S16x1x16x1, .f32⟩) main_call4_v0) (broadcastInDim S16x1x16x1 ![0, 2] bcast_S16x16_S16x1x16x1_0_2),
    TRef.unary (TRef.of (T := ⟨S16x16, .f32⟩) main_v37) (TRef.of (T := ⟨S1x16x1x16, .f32⟩) main_call4_v1) (broadcastInDim S1x16x1x16 ![1, 3] bcast_S16x16_S1x16x1x16_1_3),
    TRef.unary (TRef.of (T := ⟨S16x1x16x1, .f32⟩) main_call4_v0) (TRef.of (T := ⟨S16x16x16x16, .f32⟩) main_call4_v2) (broadcastInDim S16x16x16x16 ![0, 1, 2, 3] bcast_S16x1x16x1_S16x16x16x16_0_1_2_3),
    TRef.unary (TRef.of (T := ⟨S1x16x1x16, .f32⟩) main_call4_v1) (TRef.of (T := ⟨S16x16x16x16, .f32⟩) main_call4_v3) (broadcastInDim S16x16x16x16 ![0, 1, 2, 3] bcast_S1x16x1x16_S16x16x16x16_0_1_2_3),
    TRef.binary (TRef.of (T := ⟨S16x16x16x16, .f32⟩) main_call4_v2) (TRef.of (T := ⟨S16x16x16x16, .f32⟩) main_call4_v3) (TRef.of (T := ⟨S16x16x16x16, .f32⟩) main_call4_v4) mulf,
    TRef.reshape (TRef.of (T := ⟨S16x16x16x16, .f32⟩) main_call4_v4) (TRef.of (T := ⟨S256x256, .f32⟩) main_v38) (rfl : (.f32 : EltTy) = .f32) shapeCasts_S16x16x16x16_S256x256,
    reshape main_arg6 main_v39 (rfl : (.f32 : EltTy) = .f32) shapeCasts_S16_S1x16,
    unary main_v39 main_v40 (broadcastInDim S16x16 ![0, 1] bcast_S1x16_S16x16_0_1 : (⟨S1x16, .f32⟩ : BufTy).Contents (Elt F) → (⟨S16x16, .f32⟩ : BufTy).Contents (Elt F)),
    reshape main_v40 main_v41 (rfl : (.f32 : EltTy) = .f32) shapeCasts_S16x16_S256,
    reshape main_arg4 main_v42 (rfl : (.f32 : EltTy) = .f32) shapeCasts_S1_S_,
    unary main_v42 main_v43 (broadcastInDim S256 ![] bcast_S_S256 : (⟨S_, .f32⟩ : BufTy).Contents (Elt F) → (⟨S256, .f32⟩ : BufTy).Contents (Elt F)),
    reshape main_arg7 main_v44 (rfl : (.f32 : EltTy) = .f32) shapeCasts_S16_S1x16,
    unary main_v44 main_v45 (broadcastInDim S16x16 ![0, 1] bcast_S1x16_S16x16_0_1 : (⟨S1x16, .f32⟩ : BufTy).Contents (Elt F) → (⟨S16x16, .f32⟩ : BufTy).Contents (Elt F)),
    reshape main_v45 main_v46 (rfl : (.f32 : EltTy) = .f32) shapeCasts_S16x16_S256,
    reshape main_arg8 main_v47 (rfl : (.f32 : EltTy) = .f32) shapeCasts_S16_S1x16,
    unary main_v47 main_v48 (broadcastInDim S16x16 ![0, 1] bcast_S1x16_S16x16_0_1 : (⟨S1x16, .f32⟩ : BufTy).Contents (Elt F) → (⟨S16x16, .f32⟩ : BufTy).Contents (Elt F)),
    reshape main_v48 main_v49 (rfl : (.f32 : EltTy) = .f32) shapeCasts_S16x16_S256,
    unary main_v41 main_v50 (broadcastInDim S1x256 ![1] bcast_S256_S1x256_1 : (⟨S256, .f32⟩ : BufTy).Contents (Elt F) → (⟨S1x256, .f32⟩ : BufTy).Contents (Elt F)),
    unary main_v43 main_v51 (broadcastInDim S1x256 ![1] bcast_S256_S1x256_1 : (⟨S256, .f32⟩ : BufTy).Contents (Elt F) → (⟨S1x256, .f32⟩ : BufTy).Contents (Elt F)),
    unary main_v46 main_v52 (broadcastInDim S1x256 ![1] bcast_S256_S1x256_1 : (⟨S256, .f32⟩ : BufTy).Contents (Elt F) → (⟨S1x256, .f32⟩ : BufTy).Contents (Elt F)),
    unary main_v49 main_v53 (broadcastInDim S1x256 ![1] bcast_S256_S1x256_1 : (⟨S256, .f32⟩ : BufTy).Contents (Elt F) → (⟨S1x256, .f32⟩ : BufTy).Contents (Elt F)),
    nary ![main_v50, main_v51, main_v52, main_v53] main_v54 (fun u => rows4 (u 0) (u 1) (u 2) (u 3)),
    reshape main_arg1 main_v55 (rfl : (.f32 : EltTy) = .f32) shapeCasts_S10000x16x16_S10000x2x128,
    reshape main_arg0 main_v56 (rfl : (.f32 : EltTy) = .f32) shapeCasts_S10000x16x16x16_S160000x256,
    reshape main_arg1 main_v57 (rfl : (.f32 : EltTy) = .f32) shapeCasts_S10000x16x16_S160000x16,
    reshape main_arg2 main_v58 (rfl : (.i32 : EltTy) = .i32) shapeCasts_S10000x16_S1x160000 ]

set_option maxRecDepth 8192 in
theorem ops_sub : (ops : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., unary_bufs_sub .., unary_bufs_sub .., unary_bufs_sub .., unary_bufs_sub .., reshape_bufs_sub .., unary_bufs_sub .., reshape_bufs_sub .., unary_bufs_sub .., reshape_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., unary_bufs_sub .., unary_bufs_sub .., binary_bufs_sub .., reshape_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., unary_bufs_sub .., unary_bufs_sub .., unary_bufs_sub .., binary_bufs_sub .., reshape_bufs_sub .., binary_bufs_sub .., reshape_bufs_sub .., unary_bufs_sub .., reshape_bufs_sub .., unary_bufs_sub .., reshape_bufs_sub .., unary_bufs_sub .., reshape_bufs_sub .., binary_bufs_sub .., nullary_bufs_sub .., unary_bufs_sub .., unary_bufs_sub .., unary_bufs_sub .., unary_bufs_sub .., unary_bufs_sub .., binary_bufs_sub .., reshape_bufs_sub .., reshape_bufs_sub .., unary_bufs_sub .., reshape_bufs_sub .., reshape_bufs_sub .., unary_bufs_sub .., reshape_bufs_sub .., unary_bufs_sub .., reshape_bufs_sub .., reshape_bufs_sub .., unary_bufs_sub .., reshape_bufs_sub .., unary_bufs_sub .., unary_bufs_sub .., unary_bufs_sub .., unary_bufs_sub .., nary_bufs_sub .., reshape_bufs_sub .., reshape_bufs_sub .., reshape_bufs_sub .., reshape_bufs_sub ..⟩
set_option maxRecDepth 8192 in
theorem ops_fresh : ∀ op ∈ (ops : List (HloOp τ sig (Elt F))), op.fresh = ∅ := by
  intro op h; fin_cases h <;> rfl

abbrev LP : Labels := SparseCore.Sig (Pipeline.Sig Λ₀ (Fin 1) fun p => (pcfgs (F := F) p).Adm) 1

/-- What follows them. -/
def calls (d : Dev nD) : Prog (TpuEff nD τ sig (Elt F) (LP (F := F)) .tc) PUnit := do
  sc.run d 0
  hlo rfl (StableHlo.reshape main_v59 main_v60 (rfl : (.f32 : EltTy) = .f32) shapeCasts_S160000x2x128_S160000x256) (fun _ => .ret ⟨⟩)
  Prog.lift (.customCall (SparseCore.inner (Pipeline.entry 0)) ())
  hlo rfl (StableHlo.reshape main_v61 main_v62 (rfl : (.f32 : EltTy) = .f32) shapeCasts_S160000x256_S10000x16x16x16) (fun _ => .ret ⟨⟩)
  pure ⟨⟩

set_option maxRecDepth 8192 in
set_option maxHeartbeats 8000000 in
theorem main_eq (d : Dev nD) : main (F := F) d = (seq ops >>= fun _ => calls d) := rfl

/-! ## What they leave -/

/-- The identity. -/
def eye : FVec F S16x16 .f32 :=
  uitofp .f32 (cmpi .eq (addi (iotaInDim S16x16 32 0) (broadcastInDim S16x16 ![] bcast_S_S16x16 (constantI S_ 32 0#32))) (iotaInDim S16x16 32 1))
/-- The Kronecker product. -/
def kron (a b : FVec F S16x16 .f32) : FVec F S256x256 .f32 :=
  shapeCast S256x256 (mulf (broadcastInDim S16x16x16x16 ![0, 1, 2, 3] bcast_S16x1x16x1_S16x16x16x16_0_1_2_3 (broadcastInDim S16x1x16x1 ![0, 2] bcast_S16x16_S16x1x16x1_0_2 a))
    (broadcastInDim S16x16x16x16 ![0, 1, 2, 3] bcast_S1x16x1x16_S16x16x16x16_0_1_2_3 (broadcastInDim S1x16x1x16 ![1, 3] bcast_S16x16_S1x16x1x16_1_3 b))) shapeCasts_S16x16x16x16_S256x256
/-- A column repeated across. -/
def col (x : FVec F S16x1 .f32) : FVec F S16x16 .f32 :=
  shapeCast S16x16 (broadcastInDim S1x16x16x1 ![0, 1, 2, 3] bcast_S1x16x1x1_S1x16x16x1_0_1_2_3
    (shapeCast S1x16x1x1 (broadcastInDim S16x1 ![0] bcast_S16_S16x1_0 (shapeCast S16 x shapeCasts_S16x1_S16)) shapeCasts_S16x1_S1x16x1x1)) shapeCasts_S1x16x16x1_S16x16
/-- A column repeated across all the lanes. -/
def col256 (x : FVec F S16x1 .f32) : FVec F S16x256 .f32 :=
  shapeCast S16x256 (broadcastInDim S1x16x256x1 ![0, 1, 2, 3] bcast_S1x16x1x1_S1x16x256x1_0_1_2_3
    (shapeCast S1x16x1x1 (broadcastInDim S16x1 ![0] bcast_S16_S16x1_0 (shapeCast S16 x shapeCasts_S16x1_S16)) shapeCasts_S16x1_S1x16x1x1)) shapeCasts_S1x16x256x1_S16x256
/-- A matrix repeated across. -/
def tile256 (x : FVec F S16x16 .f32) : FVec F S16x256 .f32 :=
  shapeCast S16x256 (broadcastInDim S1x16x16x16 ![0, 1, 2, 3] bcast_S1x16x1x16_S1x16x16x16_0_1_2_3 (shapeCast S1x16x1x16 x shapeCasts_S16x16_S1x16x1x16)) shapeCasts_S1x16x16x16_S16x256
/-- A vector repeated across. -/
def lane (x : FVec F S16 .f32) : FVec F S1x256 .f32 :=
  broadcastInDim S1x256 ![1] bcast_S256_S1x256_1 (shapeCast S256 (broadcastInDim S16x16 ![0, 1] bcast_S1x16_S16x16_0_1 (shapeCast S1x16 x shapeCasts_S16_S1x16)) shapeCasts_S16x16_S256)
/-- A scalar repeated across. -/
def lane1 (x : FVec F S1 .f32) : FVec F S1x256 .f32 :=
  broadcastInDim S1x256 ![1] bcast_S256_S1x256_1 (broadcastInDim S256 ![] bcast_S_S256 (shapeCast S_ x shapeCasts_S1_S_))

variable (V : Valuation τ sig (Elt F))

abbrev W : Valuation τ sig (Elt F) := after ops V

set_option maxRecDepth 8192 in
set_option maxHeartbeats 41200000 in
theorem W_v21 : W V (Proc.devRef .tc main_v21) = fn_main_v21 (kron eye (extractStridedSlice S16x16 ![32, 0] (V (Proc.devRef .tc main_arg5)) slices_S48x16_S16x16_32_0)) (kron eye (col (extractStridedSlice S16x1 ![32, 0] (V (Proc.devRef .tc main_arg3)) slices_S48x1_S16x1_32_0))) := by
  simp only [W, ops, TRef.binary, TRef.nullary, TRef.reshape, TRef.unary, TRef.toBuf, TRef.ofBuf, cast_eq]; after_results_simp <;> rfl

set_option maxRecDepth 8192 in
set_option maxHeartbeats 41200000 in
theorem W_v28 : W V (Proc.devRef .tc main_v28) = fn_main_v28 (kron eye (extractStridedSlice S16x16 ![16, 0] (V (Proc.devRef .tc main_arg5)) slices_S48x16_S16x16_16_0)) (kron eye (col (extractStridedSlice S16x1 ![16, 0] (V (Proc.devRef .tc main_arg3)) slices_S48x1_S16x1_16_0))) := by
  simp only [W, ops, TRef.binary, TRef.nullary, TRef.reshape, TRef.unary, TRef.toBuf, TRef.ofBuf, cast_eq]; after_results_simp <;> rfl

set_option maxRecDepth 8192 in
set_option maxHeartbeats 41200000 in
theorem W_v36 : W V (Proc.devRef .tc main_v36) = fn_main_v36 (tile256 (extractStridedSlice S16x16 ![0, 0] (V (Proc.devRef .tc main_arg5)) slices_S48x16_S16x16_0_0)) (col256 (extractStridedSlice S16x1 ![0, 0] (V (Proc.devRef .tc main_arg3)) slices_S48x1_S16x1_0_0)) := by
  simp only [W, ops, TRef.binary, TRef.nullary, TRef.reshape, TRef.unary, TRef.toBuf, TRef.ofBuf, cast_eq]; after_results_simp <;> rfl

set_option maxRecDepth 8192 in
set_option maxHeartbeats 41200000 in
theorem W_v38 : W V (Proc.devRef .tc main_v38) = kron eye (broadcastInDim S16x16 ![] bcast_S_S16x16 (constant S_ .f32 0x3D800000#32)) := by
  simp only [W, ops, TRef.binary, TRef.nullary, TRef.reshape, TRef.unary, TRef.toBuf, TRef.ofBuf, cast_eq]; after_results_simp <;> rfl

set_option maxRecDepth 8192 in
set_option maxHeartbeats 41200000 in
theorem W_v54 : W V (Proc.devRef .tc main_v54) = rows4 (lane (V (Proc.devRef .tc main_arg6))) (lane1 (V (Proc.devRef .tc main_arg4))) (lane (V (Proc.devRef .tc main_arg7))) (lane (V (Proc.devRef .tc main_arg8))) := by
  simp only [W, ops, TRef.binary, TRef.nullary, TRef.reshape, TRef.unary, TRef.toBuf, TRef.ofBuf, cast_eq]; after_results_simp <;> rfl

set_option maxRecDepth 8192 in
set_option maxHeartbeats 41200000 in
theorem W_v55 : W V (Proc.devRef .tc main_v55) = shapeCast S10000x2x128 (V (Proc.devRef .tc main_arg1)) shapeCasts_S10000x16x16_S10000x2x128 := by
  simp only [W, ops, TRef.binary, TRef.nullary, TRef.reshape, TRef.unary, TRef.toBuf, TRef.ofBuf, cast_eq]; after_results_simp <;> rfl

set_option maxRecDepth 8192 in
set_option maxHeartbeats 41200000 in
theorem W_v56 : W V (Proc.devRef .tc main_v56) = shapeCast S160000x256 (V (Proc.devRef .tc main_arg0)) shapeCasts_S10000x16x16x16_S160000x256 := by
  simp only [W, ops, TRef.binary, TRef.nullary, TRef.reshape, TRef.unary, TRef.toBuf, TRef.ofBuf, cast_eq]; after_results_simp <;> rfl

set_option maxRecDepth 8192 in
set_option maxHeartbeats 41200000 in
theorem W_v57 : W V (Proc.devRef .tc main_v57) = shapeCast S160000x16 (V (Proc.devRef .tc main_arg1)) shapeCasts_S10000x16x16_S160000x16 := by
  simp only [W, ops, TRef.binary, TRef.nullary, TRef.reshape, TRef.unary, TRef.toBuf, TRef.ofBuf, cast_eq]; after_results_simp <;> rfl

set_option maxRecDepth 8192 in
set_option maxHeartbeats 41200000 in
theorem W_v58 : W V (Proc.devRef .tc main_v58) = shapeCast S1x160000 (V (Proc.devRef .tc main_arg2)) shapeCasts_S10000x16_S1x160000 := by
  simp only [W, ops, TRef.binary, TRef.nullary, TRef.reshape, TRef.unary, TRef.toBuf, TRef.ofBuf, cast_eq]; after_results_simp <;> rfl

set_option maxRecDepth 8192 in
set_option maxHeartbeats 41200000 in
theorem W_v59 : W V (Proc.devRef .tc main_v59) = V (Proc.devRef .tc main_v59) := by
  simp only [W, ops, TRef.binary, TRef.nullary, TRef.reshape, TRef.unary, TRef.toBuf, TRef.ofBuf, cast_eq]; after_results_simp

set_option maxRecDepth 8192 in
set_option maxHeartbeats 41200000 in
theorem W_arg0 : W V (Proc.devRef .tc main_arg0) = V (Proc.devRef .tc main_arg0) := by
  simp only [W, ops, TRef.binary, TRef.nullary, TRef.reshape, TRef.unary, TRef.toBuf, TRef.ofBuf, cast_eq]; after_results_simp

set_option maxRecDepth 8192 in
set_option maxHeartbeats 41200000 in
theorem W_arg1 : W V (Proc.devRef .tc main_arg1) = V (Proc.devRef .tc main_arg1) := by
  simp only [W, ops, TRef.binary, TRef.nullary, TRef.reshape, TRef.unary, TRef.toBuf, TRef.ofBuf, cast_eq]; after_results_simp

set_option maxRecDepth 8192 in
set_option maxHeartbeats 41200000 in
theorem W_arg2 : W V (Proc.devRef .tc main_arg2) = V (Proc.devRef .tc main_arg2) := by
  simp only [W, ops, TRef.binary, TRef.nullary, TRef.reshape, TRef.unary, TRef.toBuf, TRef.ofBuf, cast_eq]; after_results_simp

set_option maxRecDepth 8192 in
set_option maxHeartbeats 41200000 in
theorem W_arg3 : W V (Proc.devRef .tc main_arg3) = V (Proc.devRef .tc main_arg3) := by
  simp only [W, ops, TRef.binary, TRef.nullary, TRef.reshape, TRef.unary, TRef.toBuf, TRef.ofBuf, cast_eq]; after_results_simp

set_option maxRecDepth 8192 in
set_option maxHeartbeats 41200000 in
theorem W_arg4 : W V (Proc.devRef .tc main_arg4) = V (Proc.devRef .tc main_arg4) := by
  simp only [W, ops, TRef.binary, TRef.nullary, TRef.reshape, TRef.unary, TRef.toBuf, TRef.ofBuf, cast_eq]; after_results_simp

set_option maxRecDepth 8192 in
set_option maxHeartbeats 41200000 in
theorem W_arg5 : W V (Proc.devRef .tc main_arg5) = V (Proc.devRef .tc main_arg5) := by
  simp only [W, ops, TRef.binary, TRef.nullary, TRef.reshape, TRef.unary, TRef.toBuf, TRef.ofBuf, cast_eq]; after_results_simp

set_option maxRecDepth 8192 in
set_option maxHeartbeats 41200000 in
theorem W_arg6 : W V (Proc.devRef .tc main_arg6) = V (Proc.devRef .tc main_arg6) := by
  simp only [W, ops, TRef.binary, TRef.nullary, TRef.reshape, TRef.unary, TRef.toBuf, TRef.ofBuf, cast_eq]; after_results_simp

set_option maxRecDepth 8192 in
set_option maxHeartbeats 41200000 in
theorem W_arg7 : W V (Proc.devRef .tc main_arg7) = V (Proc.devRef .tc main_arg7) := by
  simp only [W, ops, TRef.binary, TRef.nullary, TRef.reshape, TRef.unary, TRef.toBuf, TRef.ofBuf, cast_eq]; after_results_simp

set_option maxRecDepth 8192 in
set_option maxHeartbeats 41200000 in
theorem W_arg8 : W V (Proc.devRef .tc main_arg8) = V (Proc.devRef .tc main_arg8) := by
  simp only [W, ops, TRef.binary, TRef.nullary, TRef.reshape, TRef.unary, TRef.toBuf, TRef.ofBuf, cast_eq]; after_results_simp

end Cert.Proof.Prep
-- ==== Proof.Body.lean ====
/-
  The TensorCore kernel at one grid point: what it leaves in its result's block, as a function of the eight blocks it
  reads, and its run from the nine staging buffers held whole.
-/
module

public import proofs.«01_k».proof.Proof.Base
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value

@[expose] public section

noncomputable section

namespace Cert.Proof.Dense

open Cert.KernelIdeal Cert.KernelIdeal.Gen
open Cert.Proof.Tile (UU)

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The rows of the constants' block, one rectangle each, and the result's whole block. -/
abbrev row0 : Rect S4x256 := Rect.unit (s := S4x256) ![0, 0] S1x256.size inb_S4x256_S1x256_0_0
abbrev row1 : Rect S4x256 := Rect.unit (s := S4x256) ![1, 0] S1x256.size inb_S4x256_S1x256_1_0
abbrev row2 : Rect S4x256 := Rect.unit (s := S4x256) ![2, 0] S1x256.size inb_S4x256_S1x256_2_0
abbrev row3 : Rect S4x256 := Rect.unit (s := S4x256) ![3, 0] S1x256.size inb_S4x256_S1x256_3_0
abbrev whole9 : Rect S2000x256 := Rect.unit (s := S2000x256) ![0, 0] S2000x256.size inb_S2000x256_S2000x256_0_0

/-- What the kernel stores: of the angle block `xa`, the gathered block `xg`, the edge block `xe`, the three weight matrices,
    the averaging matrix and the four rows of constants. -/
def blk (xa xg : Vec F S2000x256 .f32) (xe : Vec F S2000x16 .f32) (wa wg : Vec F S256x512 .f32) (we : Vec F S16x512 .f32)
    (on : Vec F S256x256 .f32) (k : Vec F S4x256 .f32) : Vec F S2000x256 .f32 :=
  k1_pay1 (k1_pay2 xa) (k1_pay6 xa wa xg wg xe we (View.ld k row0)) (k1_pay7 xa wa xg wg xe we (View.ld k row1)) on (View.ld k row2) (View.ld k row3)

theorem covers9 (p : Vec F S2000x256 .f32) (y : S2000x256.Idx) :
    ∃ pc ∈ ([⟨whole9, p⟩] : List (View.Piece (Elt F) S2000x256 .f32)), y ∈ pc.1.set :=
  View.cover_of_tiled [⟨whole9, p⟩] S2000x256.size (by rfl) y

theorem zeros : (![0, 0] : Fin 2 → ℕ) = fun _ => 0 := by decide

/-- The kernel from its nine staging buffers. -/
theorem body_run [∀ e, Nonempty (Elt F e)] (c : Dev nD) (E : Set ℕ) (i : grid1.Coords)
    (a1 : Memref sig .tc .vmem S2000x256 .f32) (h1 : a1.IsWhole) (a2 : Memref sig .tc .vmem S2000x256 .f32) (h2 : a2.IsWhole)
    (a3 : Memref sig .tc .vmem S2000x16 .f32) (h3 : a3.IsWhole) (a4 : Memref sig .tc .vmem S256x512 .f32) (h4 : a4.IsWhole)
    (a5 : Memref sig .tc .vmem S256x512 .f32) (h5 : a5.IsWhole) (a6 : Memref sig .tc .vmem S16x512 .f32) (h6 : a6.IsWhole)
    (a7 : Memref sig .tc .vmem S256x256 .f32) (h7 : a7.IsWhole) (a8 : Memref sig .tc .vmem S4x256 .f32) (h8 : a8.IsWhole)
    (a9 : Memref sig .tc .vmem S2000x256 .f32) (h9 : a9.IsWhole)
    (x1 x2 : Vec F S2000x256 .f32) (x3 : Vec F S2000x16 .f32) (x4 x5 : Vec F S256x512 .f32) (x6 : Vec F S16x512 .f32)
    (x7 : Vec F S256x256 .f32) (x8 : Vec F S4x256 .f32) (Q : PUnit → sProp 𝕄) :
    iprop(owns (c : Thread nD τ) a1 fullShare x1 ∗ owns (c : Thread nD τ) a2 fullShare x2 ∗ owns (c : Thread nD τ) a3 fullShare x3
        ∗ owns (c : Thread nD τ) a4 fullShare x4 ∗ owns (c : Thread nD τ) a5 fullShare x5 ∗ owns (c : Thread nD τ) a6 fullShare x6
        ∗ owns (c : Thread nD τ) a7 fullShare x7 ∗ owns (c : Thread nD τ) a8 fullShare x8 ∗ (∃ d, owns (c : Thread nD τ) a9 fullShare d)
        ∗ (iprop(owns (c : Thread nD τ) a1 fullShare x1 ∗ owns (c : Thread nD τ) a2 fullShare x2 ∗ owns (c : Thread nD τ) a3 fullShare x3
            ∗ owns (c : Thread nD τ) a4 fullShare x4 ∗ owns (c : Thread nD τ) a5 fullShare x5 ∗ owns (c : Thread nD τ) a6 fullShare x6
            ∗ owns (c : Thread nD τ) a7 fullShare x7 ∗ owns (c : Thread nD τ) a8 fullShare x8
            ∗ owns (c : Thread nD τ) a9 fullShare (blk x1 x2 x3 x4 x5 x6 x7 x8)) -∗ Q ⟨⟩))
      ⊢ wp frame (wpE (defs₀ (F := F)) Variants.none c none) E (cc1__main_body i a1 h1 a2 h2 a3 h3 a4 h4 a5 h5 a6 h6 a7 h7 a8 h8 a9 h9) Q := by
  simp only [cc1__main_body_eq_skeleton]; unfold cc1__main_body_skel
  simp only [k1_part1_eq_skeleton]; unfold k1_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, Hk⟩
  subst e1 e2 e3 e4 e5 e6 e7 e8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (covers9 _), View.canon_unit_zero zeros]
  simp only [View.readAt_eq_ld]
  rw [View.ld_unit_zero zeros, View.ld_unit_zero zeros, View.ld_unit_zero zeros, View.ld_unit_zero zeros, View.ld_unit_zero zeros, View.ld_unit_zero zeros,
    View.ld_unit_zero zeros]
  rfl

end Cert.Proof.Dense
-- ==== Proof.Region.lean ====
/-
  The TensorCore call over the thread state the launch carries: entered with every unscoped buffer at a valuation, left with
  its result's array at what the eighty blocks make it and every other buffer as it was.
-/
module

public import proofs.«01_k».proof.Proof.Body
public import Idealize.ShloMosaic.Lib.Pipeline.RegionsLoop
public import Idealize.ShloMosaic.Lib.SparseCore.Threads

@[expose] public section

noncomputable section

namespace Cert.Proof.Dense

open Cert.KernelIdeal Cert.KernelIdeal.Gen
open Cert.Proof.Tile (UU EH EP K D 𝒱 𝒱₀)

open Idealize.ShloMosaic
open Idealize.ShloMosaic.TcCoe Idealize.ShloMosaic.Tactic
open Idealize.ShloMosaic.SparseCore (S T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [∀ e, Nonempty (Elt F e)]

local notation "𝕄" => MT nD τ sig (HIx 1) (Elt F) ℕ UU ℕ

variable (V : Dev nD → Valuation τ sig (Elt F))

/-- A buffer of the TensorCore at the valuation. -/
abbrev at' (c : Dev nD) (b : Ref sig .tc) : Buf (Elt F) ((c : Thread nD τ).loc b) := V c (Proc.devRef .tc b)

/-! ## The proof data -/

/-- Window `w`'s block at point `t`, of its array at the valuation. -/
abbrev got (c : Dev nD) (w : Fin cfg1.W) (t : Fin cfg1.N) : ((cfg1.win w).xblock (cfg1.grid.coords t)).Idx → Elt F (cfg1.win w).elt :=
  ((cfg1.win w).blk t).view.read (Elt F) (at' V c (Pipeline.arrRef spec1 w))

/-- What point `t` leaves in its result's block. -/
def left (c : Dev nD) (t : Fin cfg1.N) : Vec F S2000x256 .f32 :=
  blk (got V c 0 t) (got V c 1 t) (got V c 2 t) (got V c 3 t) (got V c 4 t) (got V c 5 t) (got V c 6 t) (got V c 7 t)

/-- The waits the thread state carries: none above the call's eighth level. -/
abbrev seen (c : Dev nD) : Set (SemLoc sig × HIx 1) := {p : SemLoc sig × HIx 1 | (K (F := F)).lev (SparseCore.T c, p.1) p.2 ≤ 8}

def dat (c : Dev nD) : Dat τ (Elt F) (HIx 1) ℕ UU ℕ cfg1 c where
  A w := at' V c (Pipeline.arrRef spec1 w)
  after w t := match w with
    | ⟨0, _⟩ => got V c 0 t
    | ⟨1, _⟩ => got V c 1 t
    | ⟨2, _⟩ => got V c 2 t
    | ⟨3, _⟩ => got V c 3 t
    | ⟨4, _⟩ => got V c 4 t
    | ⟨5, _⟩ => got V c 5 t
    | ⟨6, _⟩ => got V c 6 t
    | ⟨7, _⟩ => got V c 7 t
    | ⟨8, _⟩ => left V c t
  Φ _ := iprop(emp)
  q _ := fullShare
  owed _ := 0
  recorded _ := seen (F := F) c

theorem A_eq (c : Dev nD) (w : Fin cfg1.W) : (dat V c).A w = at' V c (Pipeline.arrRef spec1 w) := by dsimp only [dat]
theorem after_in (c : Dev nD) (t : Fin cfg1.N) :
    (dat V c).after 0 t = got V c 0 t ∧ (dat V c).after 1 t = got V c 1 t ∧ (dat V c).after 2 t = got V c 2 t ∧ (dat V c).after 3 t = got V c 3 t
      ∧ (dat V c).after 4 t = got V c 4 t ∧ (dat V c).after 5 t = got V c 5 t ∧ (dat V c).after 6 t = got V c 6 t ∧ (dat V c).after 7 t = got V c 7 t := by
  refine ⟨?_, ?_, ?_, ?_, ?_, ?_, ?_, ?_⟩ <;> dsimp only [dat]
theorem after_out (c : Dev nD) (t : Fin cfg1.N) : (dat V c).after 8 t = left V c t := by dsimp only [dat]

/-- An operand's buffer holds its block whenever the body runs. -/
theorem before0 (c : Dev nD) (t : Fin cfg1.N) (d) : (dat V c).before 0 t d = got V c 0 t :=
  (dat V c).before_in_eq_fetched 0 rfl (fun _ => rfl) (fun _ _ _ => rfl) (fun t => by rw [(after_in V c t).1]; rfl) t d
theorem before1 (c : Dev nD) (t : Fin cfg1.N) (d) : (dat V c).before 1 t d = got V c 1 t :=
  (dat V c).before_in_eq_fetched 1 rfl (fun _ => rfl) (fun _ _ _ => rfl) (fun t => by rw [(after_in V c t).2.1]; rfl) t d
theorem before2 (c : Dev nD) (t : Fin cfg1.N) (d) : (dat V c).before 2 t d = got V c 2 t :=
  (dat V c).before_in_eq_fetched 2 rfl (fun _ => rfl) (fun _ _ _ => rfl) (fun t => by rw [(after_in V c t).2.2.1]; rfl) t d
theorem before3 (c : Dev nD) (t : Fin cfg1.N) (d) : (dat V c).before 3 t d = got V c 3 t :=
  (dat V c).before_in_eq_fetched 3 rfl (fun _ => rfl) (fun _ _ _ => rfl) (fun t => by rw [(after_in V c t).2.2.2.1]; rfl) t d
theorem before4 (c : Dev nD) (t : Fin cfg1.N) (d) : (dat V c).before 4 t d = got V c 4 t :=
  (dat V c).before_in_eq_fetched 4 rfl (fun _ => rfl) (fun _ _ _ => rfl) (fun t => by rw [(after_in V c t).2.2.2.2.1]; rfl) t d
theorem before5 (c : Dev nD) (t : Fin cfg1.N) (d) : (dat V c).before 5 t d = got V c 5 t :=
  (dat V c).before_in_eq_fetched 5 rfl (fun _ => rfl) (fun _ _ _ => rfl) (fun t => by rw [(after_in V c t).2.2.2.2.2.1]; rfl) t d
theorem before6 (c : Dev nD) (t : Fin cfg1.N) (d) : (dat V c).before 6 t d = got V c 6 t :=
  (dat V c).before_in_eq_fetched 6 rfl (fun _ => rfl) (fun _ _ _ => rfl) (fun t => by rw [(after_in V c t).2.2.2.2.2.2.1]; rfl) t d
theorem before7 (c : Dev nD) (t : Fin cfg1.N) (d) : (dat V c).before 7 t d = got V c 7 t :=
  (dat V c).before_in_eq_fetched 7 rfl (fun _ => rfl) (fun _ _ _ => rfl) (fun t => by rw [(after_in V c t).2.2.2.2.2.2.2]; rfl) t d

theorem row_eq (t : Fin cfg1.N) : defs₀ (F := F) .tc cfg1.body (cfg1.bodyArgs t (cfg1.slots t)) = bodyAt1 t := by
  unfold defs₀; rfl

/-- The body's obligation at every point. -/
theorem obligation (c : Dev nD) : BodyObligation (dat V c) (defs₀ (F := F)) 𝒱₀ none Set.univ := fun t => by
  rw [bigSep_W1, bigSep_W1, row_eq]
  unfold bodyAt1
  obtain ⟨a0, a1, a2, a3, a4, a5, a6, a7⟩ := after_in V c t
  rw [a0, a1, a2, a3, a4, a5, a6, a7, after_out]
  simp only [before0, before1, before2, before3, before4, before5, before6, before7]
  rw [show (dat V c).Φ t.succ = (dat V c).Φ t.castSucc from rfl, show (dat V c).owesAt none t.succ = (dat V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run (F := F) c Set.univ (grid1.coords t) _ _ _ _ _ _ _ _ _ _ _ _ _ _ _ _ _ _
    (got V c 0 t) (got V c 1 t) (got V c 2 t) (got V c 3 t) (got V c 4 t) (got V c 5 t) (got V c 6 t) (got V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The call -/

abbrev padm : (p : Fin 1) → (pcfgs (F := F) p).Adm := fun p => (cfgs p).toPCfg_adm

def pdats : (p : Fin 1) → (c : Dev nD) → Dat τ (Elt F) (HIx 1) ℕ UU ℕ (Pipeline.pin (pcfgs (F := F)) padm p) c
  | ⟨0, _⟩ => fun c => dat V c

/-- The result's array after the call. -/
def res (c : Dev nD) : Buf (Elt F) ((c : Thread nD τ).loc main_v61) := (dat V c).arrAt 8 cfg1.N

abbrev r' : DevRef τ sig := Proc.devRef .tc (main_v61 : Ref sig .tc)
/-- The valuation after the call. -/
def Vp (c : Dev nD) : Valuation τ sig (Elt F) := Function.update (V c) r' (res V c)

theorem Vp_out (c : Dev nD) : at' (Vp V) c main_v61 = res V c := Function.update_self _ _ _
theorem Vp_ne (c : Dev nD) (b : Ref sig .tc) (h : b ≠ main_v61) : at' (Vp V) c b = at' V c b :=
  Function.update_of_ne (fun e => h (Proc.devRef_injective _ e)) _ _

/-- The arrays after the call, as the valuation after it has them. -/
theorem final0 (c : Dev nD) : (dat V c).arrAt 0 cfg1.N = at' (Vp V) c main_v56 :=
  ((dat V c).arrAt_in 0 rfl _).trans ((A_eq V c 0).trans (Vp_ne V c main_v56 (by decide)).symm)
theorem final1 (c : Dev nD) : (dat V c).arrAt 1 cfg1.N = at' (Vp V) c main_v60 :=
  ((dat V c).arrAt_in 1 rfl _).trans ((A_eq V c 1).trans (Vp_ne V c main_v60 (by decide)).symm)
theorem final2 (c : Dev nD) : (dat V c).arrAt 2 cfg1.N = at' (Vp V) c main_v57 :=
  ((dat V c).arrAt_in 2 rfl _).trans ((A_eq V c 2).trans (Vp_ne V c main_v57 (by decide)).symm)
theorem final3 (c : Dev nD) : (dat V c).arrAt 3 cfg1.N = at' (Vp V) c main_v21 :=
  ((dat V c).arrAt_in 3 rfl _).trans ((A_eq V c 3).trans (Vp_ne V c main_v21 (by decide)).symm)
theorem final4 (c : Dev nD) : (dat V c).arrAt 4 cfg1.N = at' (Vp V) c main_v28 :=
  ((dat V c).arrAt_in 4 rfl _).trans ((A_eq V c 4).trans (Vp_ne V c main_v28 (by decide)).symm)
theorem final5 (c : Dev nD) : (dat V c).arrAt 5 cfg1.N = at' (Vp V) c main_v36 :=
  ((dat V c).arrAt_in 5 rfl _).trans ((A_eq V c 5).trans (Vp_ne V c main_v36 (by decide)).symm)
theorem final6 (c : Dev nD) : (dat V c).arrAt 6 cfg1.N = at' (Vp V) c main_v38 :=
  ((dat V c).arrAt_in 6 rfl _).trans ((A_eq V c 6).trans (Vp_ne V c main_v38 (by decide)).symm)
theorem final7 (c : Dev nD) : (dat V c).arrAt 7 cfg1.N = at' (Vp V) c main_v54 :=
  ((dat V c).arrAt_in 7 rfl _).trans ((A_eq V c 7).trans (Vp_ne V c main_v54 (by decide)).symm)
theorem final8 (c : Dev nD) : (dat V c).arrAt 8 cfg1.N = at' (Vp V) c main_v61 := (Vp_out V c).symm

theorem finals (c : Dev nD) : (w : Fin cfg1.W) → (dat V c).arrAt w cfg1.N = at' (Vp V) c (Pipeline.arrRef spec1 w)
  | ⟨0, _⟩ => final0 V c
  | ⟨1, _⟩ => final1 V c
  | ⟨2, _⟩ => final2 V c
  | ⟨3, _⟩ => final3 V c
  | ⟨4, _⟩ => final4 V c
  | ⟨5, _⟩ => final5 V c
  | ⟨6, _⟩ => final6 V c
  | ⟨7, _⟩ => final7 V c
  | ⟨8, _⟩ => final8 V c

/-- The core's promises, with its waits bounded. -/
abbrev Ob (c : Dev nD) : sProp 𝕄 :=
  iprop(∃ W, ⌜(K (F := F)).WBelow (SparseCore.T c) W 8⌝ ∗ owes (SparseCore.T c) (0 : CellTallies nD τ sig (HIx 1)) W)

set_option backward.isDefEq.respectTransparency.types false in
/-- The call's arrays and the rest, as the valuation after it. -/
theorem join (c : Dev nD) : iprop((dat V c).arrays ((dat V c).arrAt · cfg1.N) ∗ Pipeline.unscopedRest (Ix := HIx 1) (Name := ℕ) (U := UU) (Lvl := ℕ) spec1 c (at' V c))
    ⊢ (unscopedBufs c (at' (Vp V) c) : sProp 𝕄) :=
  Pipeline.unscopedBufs_of_arrays (p := 0) (pcfgs (F := F)) padm (Ix := HIx 1) (Name := ℕ) (U := UU) (Lvl := ℕ) launch1.win launch1.arr_whole c
    (pdats V) ((pdats V 0 c).share_full fun _ => rfl) (at' V c) (at' (Vp V) c) ((dat V c).arrAt · cfg1.N)
    (finals V c)
    (fun b hb => Vp_ne V c b fun h => hb (h ▸ Finset.mem_image.mpr ⟨8, Finset.mem_univ _, rfl⟩))

theorem out_ (c : Dev nD) : (iprop(emp) : sProp 𝕄)
    ⊢ iprop(emp ∗ Pipeline.ownSems0 (fun k : PEmpty => (k.elim : SemLoc sig)) c ∗ Pipeline.scopedRest spec1 c) := by
  rw [Pipeline.ownSems0_none, scopedRest1_eq c]
  iintro -
  isplitr; · iempintro
  isplitr <;> iempintro

set_option backward.isDefEq.respectTransparency.types false in
theorem exit_ (R : Dev nD → sProp 𝕄) (c : Dev nD) :
    iprop((dat V c).arrays ((dat V c).arrAt · cfg1.N) ∗ (dat V c).owesAt none (Fin.last cfg1.N) ∗ emp
      ∗ (Pipeline.unscopedRest (Ix := HIx 1) (Name := ℕ) (U := UU) (Lvl := ℕ) spec1 c (at' V c) ∗ R c))
    ⊢ |={Set.univ}=> iprop(unscopedBufs c (at' (Vp V) c) ∗ R c ∗ Ob c) := by
  iintro ⟨Ha, HO, -, Hrest, HR⟩
  imodintro
  isplitl [Ha Hrest]
  · iapply (join V c); isplitl [Ha] <;> iassumption
  isplitl [HR]; · iexact HR
  unfold Pipeline.Dat.owesAt Pipeline.owesWithin
  icases HO with ⟨%W, %hW, HO⟩; iexists W
  isplitr
  · ipureintro
    intro p hp
    rcases hW hp with h | h
    · exact h
    · obtain ⟨w, s, rfl⟩ := h
      exact Nat.zero_le _
  · iexact HO

set_option backward.isDefEq.respectTransparency.types false in
def seg (R : Dev nD → sProp 𝕄) : Pipeline.RegionSeg (pcfgs (F := F)) padm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (obligation V c).loose
  hwaits := Pipeline.hwaits_of_owed_zero _ _ _ _ _ _ 0 fun _ _ => rfl
  pre c := iprop(unscopedBufs c (at' V c) ∗ R c ∗ Ob c)
  post c := iprop(unscopedBufs c (at' (Vp V) c) ∗ R c ∗ Ob c)
  X _ := iprop(emp)
  Y _ := iprop(emp)
  Z c := iprop(Pipeline.unscopedRest (Ix := HIx 1) (Name := ℕ) (U := UU) (Lvl := ℕ) spec1 c (at' V c) ∗ R c)
  hentry c := by
    rw [Pipeline.ownSems0_none]
    have hsplit := Pipeline.arrays_of_unscopedBufs (p := 0) (pcfgs (F := F)) padm (pdats V) launch1.win launch1.arr_whole c
      ((pdats V 0 c).share_full fun _ => rfl) (at' V c) fun _ => rfl
    iintro ⟨⟨Hub, HR, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (show p ∈ seen (F := F) c from hW p hp)
      iexact HO
    isplitr; · iempintro
    isplitl [Hrest] <;> iassumption
  hin c := by
    rw [show (pdats V 0 c).Φ 0 = iprop(emp) from rfl]
    iintro -; iempintro
  hout c := out_ c
  hexit c := exit_ V R c

end Cert.Proof.Dense
-- ==== Proof.Launch.lean ====
/-
  The launch: @main lays out the weights and the list, makes the gather call and the TensorCore call, and leaves its result;
  every semaphore ends at zero.
-/
module

public import proofs.«01_k».proof.Proof.Call0
public import proofs.«01_k».proof.Proof.Prep
public import proofs.«01_k».proof.Proof.Region
public import Idealize.ShloMosaic.Lib.Pipeline.Frame

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr wp_hlo_within wp_seq)
open Idealize.ShloMosaic.Pipeline (ucRefs cellsGhost toksInit)
open Idealize.ShloMosaic.Tactic
open Idealize.ShloMosaic.ValueIdx
open Cert.Proof.Prep (ops calls main_eq)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tiles' parts make up the buffers -/

omit [FloatOps F] in
theorem shares (ℓ : Loc nD τ sig) (f : Buf (Elt F) ℓ) :
    (ℓ ↦{fullShare} f : sProp 𝕄) = bigSep Finset.univ fun c : Fin 2 => bigSep Finset.univ fun s : Fin 16 => ℓ ↦{tq (coordsV c s)} f := by
  rw [pointsTo_piecesOf Finset.univ f (o := 2) (by decide) fullShare]
  exact bigSep_congr fun c _ => pointsTo_piecesOf Finset.univ f (o := 16) (by decide) _

theorem blocks_apart : ∀ p q : Fin 2 × Fin 16, p ≠ q → st (coordsV p.1 p.2) + nn (coordsV p.1 p.2) ≤ st (coordsV q.1 q.2)
    ∨ st (coordsV q.1 q.2) + nn (coordsV q.1 q.2) ≤ st (coordsV p.1 p.2) := by decide +kernel
theorem blocks_all : ∀ b : Fin 1250, ∃ p : Fin 2 × Fin 16, st (coordsV p.1 p.2) ≤ b.val ∧ b.val < st (coordsV p.1 p.2) + nn (coordsV p.1 p.2) := by decide +kernel

theorem range_blocks : Finset.range 1250 = (Finset.univ : Finset (Fin 2 × Fin 16)).biUnion fun p =>
    Finset.Ico (st (coordsV p.1 p.2)) (st (coordsV p.1 p.2) + nn (coordsV p.1 p.2)) := by
  ext b
  rw [Finset.mem_range, Finset.mem_biUnion]
  constructor
  · intro h
    obtain ⟨p, h1, h2⟩ := blocks_all ⟨b, h⟩
    exact ⟨p, Finset.mem_univ _, Finset.mem_Ico.mpr ⟨h1, h2⟩⟩
  · rintro ⟨p, -, h⟩
    exact lt_of_lt_of_le (Finset.mem_Ico.mp h).2 (st_add_nn _)

omit [FloatOps F] in
theorem bigSep_blocks (Φ : ℕ → sProp 𝕄) : bigSep (Finset.range 1250) Φ = bigSep Finset.univ fun c : Fin 2 => bigSep Finset.univ fun s : Fin 16 =>
    bigSep (Finset.Ico (st (coordsV c s)) (st (coordsV c s) + nn (coordsV c s))) Φ := by
  rw [range_blocks, SparseCore.Cfg.bigSep_biUnion_eq _ _ _ (fun p _ q _ hpq => ?_)]
  · exact bigSep_univ_prod _
  · rw [Finset.disjoint_left]
    intro b hp hq
    have h1 := Finset.mem_Ico.mp hp
    have h2 := Finset.mem_Ico.mp hq
    rcases blocks_apart p q hpq with h | h <;> omega

theorem oSet_apart (O : Memref sig .scVector .hbm S160000x2x128 .f32) {b b' : ℕ} (h : b ≠ b') : Disjoint (oSet O b) (oSet O b') := by
  unfold oSet View.setOn
  rw [Finset.disjoint_map, Finset.disjoint_left]
  intro x h1 h2
  exact h ((Finset.mem_filter.mp h1).2.symm.trans (Finset.mem_filter.mp h2).2)
theorem oSet_all (O : Memref sig .scVector .hbm S160000x2x128 .f32) (hO : O.view.set = Finset.univ) : (Finset.range 1250).biUnion (oSet O) = Finset.univ := by
  rw [← hO]
  ext y
  rw [Finset.mem_biUnion]
  constructor
  · rintro ⟨b, -, h⟩
    obtain ⟨x, -, rfl⟩ := Finset.mem_map.mp h
    exact Finset.mem_map_of_mem _ (Finset.mem_univ _)
  · intro h
    obtain ⟨x, -, rfl⟩ := Finset.mem_map.mp h
    have hx : (x 0).val < 160000 := (x 0).isLt
    exact ⟨(x 0).val / 128, Finset.mem_range.mpr (by omega), Finset.mem_map_of_mem _ (Finset.mem_filter.mpr ⟨Finset.mem_univ _, rfl⟩)⟩

omit [FloatOps F] in
theorem outs0 (d : Dev nD) (f : Buf (Elt F) (o0Loc d)) : (o0Loc d ↦{fullShare} f : sProp 𝕄) = bigSep Finset.univ fun c : Fin 2 => bigSep Finset.univ fun s : Fin 16 =>
    OBlks d (cT (coordsV c s)) (jT (coordsV c s)) o0V (st (coordsV c s)) (st (coordsV c s) + nn (coordsV c s)) f := by
  refine Eq.trans ?_ (bigSep_blocks (F := F) fun b => (o0Loc d ↦[oSet o0V b]{fullShare} f : sProp 𝕄))
  rw [← pointsTo_biUnion (ℓ := o0Loc d) (Finset.range 1250) (oSet o0V) (fun _ _ _ _ h => oSet_apart o0V h)]
  exact congrArg (fun S => (o0Loc d ↦[S]{fullShare} f : sProp 𝕄)) (oSet_all o0V (View.set_whole _)).symm

theorem parts0 (d : Dev nD) (f : Buf (Elt F) (o0Loc d)) :
    (iprop((aLoc d ↦{fullShare} TA m d) ∗ (lLoc d ↦{fullShare} LI m d) ∗ (o0Loc d ↦{fullShare} f)) : sProp 𝕄)
      = bigSep Finset.univ fun c : Fin 2 => bigSep Finset.univ fun s : Fin 16 => Part0 m d (coordsV c s) f := by
  unfold Part0
  simp only [bigSep_sep']
  rw [← shares, ← shares, ← outs0]

theorem dn0_eq (d : Dev nD) : (bigSep Finset.univ fun c : Fin ((K (F := F)).nCore 0) => (P m).dn 0 d c)
    = iprop((aLoc d ↦{fullShare} TA m d) ∗ (lLoc d ↦{fullShare} LI m d) ∗ (o0Loc d ↦{fullShare} G0 m d)) := (parts0 m d (G0 m d)).symm

/-! ## The launch element of the ghost state -/

abbrev pcells : Finset (GSem nD τ sig) := Pipeline.cells (nD := nD) (τ := τ) cfgs cellOf_inj
abbrev ptoks : Finset (GSem nD τ sig × ℕ × Unit) := Pipeline.launchToks (nD := nD) (τ := τ) cfgs cellOf_inj

def u₀ : UU := (initOf (K (F := F)).hsCells (K (F := F)).hsToks, (initOf pcells ptoks, 1))

/-- The pipeline's cells and tokens on a device. -/
abbrev Gh (d : Dev nD) : sProp 𝕄 := iprop(cellsGhost cfgs EP 0 d ∗ toksInit cfgs EP 0 d)

omit [FloatOps F] in
theorem ownU_split (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem hu₀ : (ownU (u₀ (F := F)) : sProp 𝕄)
    ⊢ |={Set.univ}=> iprop(BI.own (EH (initOf (K (F := F)).hsCells (K (F := F)).hsToks)) ∗ (bigSep Finset.univ fun d : Dev nD => Gh d)
        ∗ bigSep Finset.univ fun thr : Thread nD τ => bigSep Finset.univ fun q : Fin 1 => (P m).x q thr) := by
  unfold u₀
  iintro Hu
  ihave H := (ownU_split _ _) $$ Hu
  icases H with ⟨HH, HK⟩
  imod (Pipeline.fund_ghost (nD := nD) (τ := τ) cfgs EP cellOf_inj) $$ HK with ⟨Hg, Ht⟩
  imodintro
  isplitl [HH]; · iexact HH
  have e1 : (bigSep (Finset.univ : Finset (Dev nD)) fun d => bigSep Finset.univ fun p : Fin 1 => (cellsGhost cfgs EP p d : sProp 𝕄))
      = bigSep Finset.univ fun d : Dev nD => cellsGhost cfgs EP 0 d := bigSep_congr fun d _ => bigSep_univ_of_subsingleton (0 : Fin 1)
  have e3 : (bigSep (Finset.univ : Finset (Dev nD)) fun d => bigSep Finset.univ fun p : Fin 1 => (toksInit cfgs EP p d : sProp 𝕄))
      = bigSep Finset.univ fun d : Dev nD => toksInit cfgs EP 0 d := bigSep_congr fun d _ => bigSep_univ_of_subsingleton (0 : Fin 1)
  have e2 : (bigSep Finset.univ fun thr : Thread nD τ => bigSep Finset.univ fun q : Fin 1 => (P m).x q thr) = (iprop(emp) : sProp 𝕄) :=
    (bigSep_congr fun _ _ => bigSep_emp_const _).trans (bigSep_emp_const _)
  rw [e2]
  isplitl [Hg Ht]
  · rw [bigSep_sep']
    isplitl [Hg]
    · iapply (Entails.of_eq e1); iexact Hg
    · iapply (Entails.of_eq e3); iexact Ht
  · iempintro

/-! ## @main -/

abbrev a' : DevRef τ sig := Proc.devRef .tc (main_v55 : Ref sig .tc)
abbrev l' : DevRef τ sig := Proc.devRef .tc (main_v58 : Ref sig .tc)
abbrev o' : DevRef τ sig := Proc.devRef .tc (main_v59 : Ref sig .tc)
abbrev S3 : Finset (DevRef τ sig) := {a', l', o'}

abbrev opA : HloOp τ sig (Elt F) := StableHlo.reshape main_v59 main_v60 (rfl : (.f32 : EltTy) = .f32) shapeCasts_S160000x2x128_S160000x256
abbrev opB : HloOp τ sig (Elt F) := StableHlo.reshape main_v61 main_v62 (rfl : (.f32 : EltTy) = .f32) shapeCasts_S160000x256_S10000x16x16x16

/-- The contents as @main goes: at the launch, before the gather call, after it, before the TensorCore call, after it, at the end. -/
abbrev W0 (d : Dev nD) : Valuation τ sig (Elt F) := fun b => m (d, b)
abbrev W1 (d : Dev nD) : Valuation τ sig (Elt F) := Prep.W (W0 m d)
def W2 (d : Dev nD) : Valuation τ sig (Elt F) := Function.update (W1 m d) o' (G0 m d)
def W3 (d : Dev nD) : Valuation τ sig (Elt F) := opA.result (W2 m d)
def W4 [∀ e, Nonempty (Elt F e)] (d : Dev nD) : Valuation τ sig (Elt F) := Dense.Vp (W3 m) d
def W5 [∀ e, Nonempty (Elt F e)] (d : Dev nD) : Valuation τ sig (Elt F) := opB.result (W4 m d)

theorem S3_sub : S3 ⊆ ucRefs τ sig := by
  intro b hb
  refine Finset.mem_filter.mpr ⟨?_, ?_⟩
  · simp only [S3, Finset.mem_insert, Finset.mem_singleton] at hb
    rcases hb with rfl | rfl | rfl <;> exact Finset.mem_map_of_mem _ (Finset.mem_univ _)
  · simp only [S3, Finset.mem_insert, Finset.mem_singleton] at hb
    rcases hb with rfl | rfl | rfl <;> decide

omit [FloatOps F] in
theorem held_S3 (d : Dev nD) (W : Valuation τ sig (Elt F)) :
    (held (SparseCore.T d) S3 W : sProp 𝕄) = iprop((aLoc d ↦{fullShare} W a') ∗ (lLoc d ↦{fullShare} W l') ∗ (o0Loc d ↦{fullShare} W o')) := by
  unfold held S3
  rw [SparseCore.bigSep_insert' (by decide), SparseCore.bigSep_insert' (by decide), bigSep_singleton]

theorem W2_o (d : Dev nD) : W2 m d o' = G0 m d := Function.update_self _ _ _
theorem W2_ne (d : Dev nD) (b : DevRef τ sig) (h : b ≠ o') : W2 m d b = W1 m d b := Function.update_of_ne h _ _

theorem W1_a (d : Dev nD) : W1 m d a' = TA m d := Prep.W_v55 (W0 m d)
theorem W1_l (d : Dev nD) : W1 m d l' = LI m d := Prep.W_v58 (W0 m d)
theorem W1_o (d : Dev nD) : W1 m d o' = m (o0Loc d) := Prep.W_v59 (W0 m d)

theorem held_W1 (d : Dev nD) : (held (SparseCore.T d) S3 (W1 m d) : sProp 𝕄)
    = iprop((aLoc d ↦{fullShare} TA m d) ∗ (lLoc d ↦{fullShare} LI m d) ∗ (o0Loc d ↦{fullShare} m (o0Loc d))) := by
  rw [held_S3, W1_a, W1_l, W1_o]
theorem held_W2 (d : Dev nD) : (held (SparseCore.T d) S3 (W2 m d) : sProp 𝕄)
    = iprop((aLoc d ↦{fullShare} TA m d) ∗ (lLoc d ↦{fullShare} LI m d) ∗ (o0Loc d ↦{fullShare} G0 m d)) := by
  rw [held_S3, W2_o, W2_ne m d a' (by decide), W2_ne m d l' (by decide), W1_a, W1_l]

theorem held_rest (d : Dev nD) : (held (SparseCore.T d) (ucRefs τ sig \ S3) (W1 m d) : sProp 𝕄) = held (SparseCore.T d) (ucRefs τ sig \ S3) (W2 m d) :=
  held_congr _ fun b hb => (W2_ne m d b fun e => (Finset.mem_sdiff.mp hb).2 (by rw [e]; decide)).symm

theorem hA : (opA (F := F)).bufs ⊆ ucRefs τ sig := Pipeline.sub_ucRefs _ (StableHlo.reshape_bufs_sub ..)
theorem hB : (opB (F := F)).bufs ⊆ ucRefs τ sig := Pipeline.sub_ucRefs _ (StableHlo.reshape_bufs_sub ..)

omit [FloatOps F] in
theorem uc_held (d : Dev nD) (W : Valuation τ sig (Elt F)) :
    (unscopedBufs d (fun b => W (Proc.devRef .tc b)) : sProp 𝕄) = held (SparseCore.T d) (ucRefs τ sig) W := Pipeline.unscopedBufs_held d W

abbrev FIN [∀ e, Nonempty (Elt F e)] (d : Dev nD) : sProp 𝕄 := held (SparseCore.T d) (ucRefs τ sig) (W5 m d)

set_option backward.isDefEq.respectTransparency.types false in
/-- The TensorCore call, from the thread state after the gather call. -/
theorem region [∀ e, Nonempty (Elt F e)] (κ : GSem nD τ sig → ℕ) (d : Dev nD) (Φ : PUnit → sProp 𝕄) :
    iprop((K (F := F)).ctx EH (P m) κ ∗ (K (F := F)).tcSt EH d 1 ∗ Gh d ∗ boundary (SparseCore.T d) ∗ held (SparseCore.T d) (ucRefs τ sig) (W3 m d)
        ∗ ((((K (F := F)).tcSt EH d 1) ∗ boundary (SparseCore.T d) ∗ held (SparseCore.T d) (ucRefs τ sig) (W4 m d)) -∗ Φ ⟨⟩))
      ⊢ wp frame (wpE ((K (F := F)).defs (D (F := F))) 𝒱 (SparseCore.T d) none) Set.univ
          (Prog.lift (.customCall (SparseCore.inner (Pipeline.entry 0)) ())) Φ := by
  have e : (Prog.lift (.customCall (SparseCore.inner (Pipeline.entry 0)) ()) : Prog (TpuEff nD τ sig (Elt F) (Prep.LP (F := F)) .tc) PUnit)
      = SparseCore.liftProg (.op (.customCall (Pipeline.entry 0) ()) .ret) := rfl
  rw [e]
  refine BIBase.Entails.trans ?_ ((K (F := F)).wp_liftProg (D (F := F)) 𝒱 (SparseCore.T d) Set.univ none (.op (.customCall (Pipeline.entry 0) ()) .ret) Φ)
  have h := Pipeline.RegionSeg.wp (pcfgs (F := F)) Dense.padm (Dense.pdats (W3 m)) none cellOf_inj EP defs₀ 𝒱₀ (K (F := F)).L (K (F := F)).lev
    (Dense.seg (W3 m) fun _ => iprop(emp)) d none (fun u hu => absurd hu (by simp)) .ret Φ
  refine BIBase.Entails.trans ?_ h
  unfold SparseCore.Cfg.tcSt
  rw [(K (F := F)).Otc_end d (le_refl 1)]
  iintro ⟨#Hctx, ⟨HO, Hst⟩, ⟨Hg, Ht⟩, Hb, Hheld, Hk⟩
  isplitl [Hk Hst]
  · iintro ⟨Hb, Hpost⟩
    ihave Hpost := (Entails.of_eq (show (Dense.seg (W3 m) fun _ => iprop(emp)).post d
      = iprop(unscopedBufs d (Dense.at' (Dense.Vp (W3 m)) d) ∗ emp ∗ Dense.Ob d) from rfl)) $$ Hpost
    icases Hpost with ⟨Hub, -, HO⟩
    rw [wp_ret]; imodintro
    iapply Hk
    isplitl [HO Hst]
    · isplitl [HO]; · iexact HO
      iexact Hst
    isplitl [Hb]; · iexact Hb
    iapply (Entails.of_eq (uc_held d (W4 m d))); iexact Hub
  isplitl [Hb]; · iexact Hb
  isplitl [Hheld HO]
  · iapply (Entails.of_eq (show iprop(unscopedBufs d (Dense.at' (W3 m) d) ∗ emp ∗ Dense.Ob d) = (Dense.seg (W3 m) fun _ => iprop(emp)).pre d from rfl))
    isplitl [Hheld]; · iapply (Entails.of_eq (uc_held d (W3 m d)).symm); iexact Hheld
    isplitr; · iempintro
    iexact HO
  isplitr; · iapply (SparseCore.Cfg.ctx_levAts κ); iexact Hctx
  isplitl [Hg]; · iexact Hg
  iexact Ht

/-- @main on a device. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (ucRefs τ sig) (W0 m d) from uc_held d (W0 m d)]
  iintro ⟨#Hctx, Hst, ⟨Hb, Hheld, Hts, -⟩, Hgh⟩
  iapply (wp_seq (defs := (K (F := F)).defs (D (F := F))) 𝒱 none Set.univ d (ucRefs τ sig) _ ops
    (fun op h => Pipeline.sub_ucRefs op ((List.forall_iff_forall_mem.mp Prep.ops_sub) op h)) Prep.ops_fresh (W0 m d)) $$ [Hb Hheld]
  · isplitl [Hb] <;> iassumption
  iintro ⟨Hb, Hheld⟩
  unfold calls
  simp only [wp_bind, wp_pure]
  ihave Hh := (Entails.of_eq (held_sub_split (SparseCore.T d) S3_sub (W1 m d))) $$ Hheld
  icases Hh with ⟨H3, Hrest⟩
  ihave Hp := (Entails.of_eq ((held_W1 m d).trans (parts0 m d (m (o0Loc d))))) $$ H3
  iapply ((K (F := F)).wp_run (D (F := F)) 𝒱 (EH := EH) (P := P m) κ d 0) $$ [Hst Hp Hrest Hb Hts Hgh]
  isplitr; · iexact Hctx
  isplitl [Hst]; · iexact Hst
  isplitl [Hp]; · iexact Hp
  iintro ⟨Hst, Hdn⟩
  ihave Hp := (Entails.of_eq ((dn0_eq m d).trans (held_W2 m d).symm)) $$ Hdn
  ihave Hr := (Entails.of_eq (held_rest m d)) $$ Hrest
  ihave Hheld := (Entails.of_eq (held_sub_split (SparseCore.T d) S3_sub (W2 m d)).symm) $$ [Hp Hr]
  · isplitl [Hp] <;> iassumption
  iapply (wp_hlo_within 𝒱 (SparseCore.T d) none Set.univ (op := opA) (S := ucRefs τ sig) hA (V := W2 m d)) $$ [Hb Hheld]
  · isplitl [Hb] <;> iassumption
  iintro ⟨Hb, Hheld⟩
  rw [wp_ret]; imodintro
  iapply (region m κ d)
  isplitr; · iexact Hctx
  isplitl [Hst]; · iexact Hst
  isplitl [Hgh]; · iexact Hgh
  isplitl [Hb]; · iexact Hb
  isplitl [Hheld]; · iexact Hheld
  iintro ⟨Hst, Hb, Hheld⟩
  iapply (wp_hlo_within 𝒱 (SparseCore.T d) none Set.univ (op := opB) (S := ucRefs τ sig) hB (V := W4 m d)) $$ [Hb Hheld]
  · isplitl [Hb] <;> iassumption
  iintro ⟨Hb, Hheld⟩
  rw [wp_ret]; imodintro
  imodintro
  isplitl [Hst]; · iexact Hst
  isplitl [Hheld]; · iexact Hheld
  isplitl [Hb] <;> iassumption

def fq [∀ e, Nonempty (Elt F e)] (d : Dev nD) (s' : Phys nD τ sig (Elt F)) : Prop := ∀ b ∈ ucRefs τ sig, s'.mem.mem (d, b) = W5 m d b

theorem hfin [∀ e, Nonempty (Elt F e)] (d : Dev nD) (s' : Phys nD τ sig (Elt F)) : iprop(FIN m d ∗ SI s') ⊢ (⌜fq m d s'⌝ : sProp 𝕄) := by
  refine BIBase.Entails.trans ?_ (SI_pointsTo_bufs_agree (st := s') (c := d) (qs := fun _ => fullShare) (F := W5 m d) (ucRefs τ sig))
  iintro ⟨H, HSI⟩
  isplitl [HSI]; · iexact HSI
  iapply (show (FIN m d : sProp 𝕄) ⊢ bigSep (ucRefs τ sig) fun b => ((d, b) ↦{fullShare} W5 m d b) from .rfl); iexact H

/-! ## What the run leaves -/

theorem W5_res [∀ e, Nonempty (Elt F e)] (d : Dev nD) :
    W5 m d (Proc.devRef .tc main_v62) = shapeCast S10000x16x16x16 (Dense.res (W3 m) d) shapeCasts_S160000x256_S10000x16x16x16 := by
  refine (StableHlo.reshape_result main_v61 main_v62 _ _ _ _ _).trans ?_
  rw [show W4 m d (Proc.devRef .tc main_v61) = Dense.res (W3 m) d from Dense.Vp_out (W3 m) d]
  rfl

theorem W3_other (d : Dev nD) (b : Ref sig .tc) (h : b ≠ main_v60 ∧ b ≠ main_v59) :
    W3 m d (Proc.devRef .tc b) = W1 m d (Proc.devRef .tc b) :=
  ((opA (F := F)).result_of_not_mem (W2 m d) (show Proc.devRef .tc b ∉ ({Proc.devRef .tc main_v60} : Finset (DevRef τ sig)) from
    fun e => h.1 (Proc.devRef_injective _ (Finset.mem_singleton.mp e)))).trans (W2_ne m d _ fun e => h.2 (Proc.devRef_injective _ e))
theorem W3_ge (d : Dev nD) : W3 m d (Proc.devRef .tc main_v60) = shapeCast S160000x256 (G0 m d) shapeCasts_S160000x2x128_S160000x256 := by
  refine (StableHlo.reshape_result main_v59 main_v60 _ _ _ _ _).trans ?_
  rw [show W2 m d (Proc.devRef .tc main_v59) = G0 m d from W2_o m d]
  rfl

theorem W5_other [∀ e, Nonempty (Elt F e)] (d : Dev nD) (b : Ref sig .tc) (h : b ≠ main_v62 ∧ b ≠ main_v61 ∧ b ≠ main_v60 ∧ b ≠ main_v59) :
    W5 m d (Proc.devRef .tc b) = W1 m d (Proc.devRef .tc b) :=
  ((opB (F := F)).result_of_not_mem (W4 m d) (show Proc.devRef .tc b ∉ ({Proc.devRef .tc main_v62} : Finset (DevRef τ sig)) from
    fun e => h.1 (Proc.devRef_injective _ (Finset.mem_singleton.mp e)))).trans ((Dense.Vp_ne (W3 m) d b h.2.1).trans (W3_other m d b h.2.2))

theorem uc_mem (b : Ref sig .tc) (h : (Proc.devRef .tc b : DevRef τ sig).isScoped = false) : (Proc.devRef .tc b : DevRef τ sig) ∈ ucRefs τ sig :=
  Finset.mem_filter.mpr ⟨Finset.mem_map_of_mem _ (Finset.mem_univ _), by rw [h]; exact Bool.false_ne_true⟩

def QC [∀ e, Nonempty (Elt F e)] : PUnit × MemSt nD τ sig (Elt F) → Prop := fun r =>
  (∀ c : Dev nD, ∀ b ∈ ucRefs τ sig, r.2.mem (c, b) = W5 m c b) ∧ r.2.sem = fun _ => 0

/-- The kernel's run, over any reading of the floating-point words. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl0 m hpre)
    (fun q _ => match q with | 0 => SparseCore.Cfg.VecSplit.of_plain (vecSplit0 m))
    m ρ main (fun d => Gh d) (FIN m) (u₀ (F := F)) (sep_elim_left.trans (hu₀ m)) (hmain m ρ) (fq m) (hfin m) (QC m) (fun _ h hz => ⟨h, hz⟩)

end Cert.Proof.Tile
-- ==== Proof.Weights.lean ====
/-
  The weight matrices and the rows of constants the dense kernel reads, entry by entry over the extended reals.
-/
module

public import proofs.«01_k».proof.Proof.Prep
public import Idealize.ShloMosaic.Lib.Pointwise

@[expose] public section

namespace Cert.Proof.Weights

open Cert.KernelIdeal Cert.KernelIdeal.Gen
open Cert.Proof.Prep
open Idealize.ShloMosaic Idealize.ShloMosaic.TcCoe
open scoped BigOperators

theorem eye_bit (i j : Fin 16) :
    IntOp.cmpi CmpIPredicate.eq (IntOp.addi (BitVec.ofNat 32 i.val) 0#32) (BitVec.ofNat 32 j.val) = if i = j then 1#1 else 0#1 := by
  revert i j; decide

/-- The identity matrix. -/
theorem eye_apply (i j : Fin 16) : eye (F := Ideal) (ix2 i j) = if i = j then (1 : EReal) else 0 := by
  have h : eye (F := Ideal) (ix2 i j)
      = (FloatOps.uitofp (F := Ideal) .f32 (IntOp.cmpi CmpIPredicate.eq (IntOp.addi (BitVec.ofNat 32 i.val) 0#32) (BitVec.ofNat 32 j.val))) := by
    unfold eye; pointwise
  rw [h, eye_bit]
  show ((((if i = j then 1#1 else 0#1 : BitVec 1).toNat : ℝ)) : EReal) = _
  by_cases c : i = j <;> simp [c]

theorem kron_apply (a b : FVec Ideal S16x16 .f32) (k l : Fin 256) :
    kron a b (ix2 k l) = a (ix2 ⟨k.val / 16, by omega⟩ ⟨l.val / 16, by omega⟩) * b (ix2 ⟨k.val % 16, by omega⟩ ⟨l.val % 16, by omega⟩) := by
  unfold kron; pointwise

theorem col_apply (x : FVec Ideal S16x1 .f32) (i j : Fin 16) : col x (ix2 i j) = x (ix2 i 0) := by
  unfold col; pointwise

theorem col256_apply (x : FVec Ideal S16x1 .f32) (i : Fin 16) (j : Fin 256) : col256 x (ix2 i j) = x (ix2 i 0) := by
  unfold col256; pointwise

theorem tile256_apply (x : FVec Ideal S16x16 .f32) (i : Fin 16) (j : Fin 256) :
    tile256 x (ix2 i j) = x (ix2 i ⟨j.val % 16, by omega⟩) := by
  unfold tile256; pointwise

theorem lane_apply (x : FVec Ideal S16 .f32) (j : Fin 256) : lane x (ix2 0 j) = x (ix1 ⟨j.val % 16, by omega⟩) := by
  unfold lane; pointwise

theorem lane1_apply (x : FVec Ideal S1 .f32) (j : Fin 256) : lane1 x (ix2 0 j) = x (ix1 0) := by
  unfold lane1; pointwise

theorem v21_lo (a b : FVec Ideal S256x256 .f32) (k l : Fin 256) : fn_main_v21 (F := Ideal) a b (ix2 k ⟨l.val, by omega⟩) = a (ix2 k l) := by
  unfold fn_main_v21; pointwise

theorem v21_hi (a b : FVec Ideal S256x256 .f32) (k l : Fin 256) : fn_main_v21 (F := Ideal) a b (ix2 k ⟨256 + l.val, by omega⟩) = b (ix2 k l) := by
  unfold fn_main_v21; pointwise

theorem v36_lo (a b : FVec Ideal S16x256 .f32) (k : Fin 16) (l : Fin 256) : fn_main_v36 (F := Ideal) a b (ix2 k ⟨l.val, by omega⟩) = a (ix2 k l) := by
  unfold fn_main_v36; pointwise

theorem v36_hi (a b : FVec Ideal S16x256 .f32) (k : Fin 16) (l : Fin 256) : fn_main_v36 (F := Ideal) a b (ix2 k ⟨256 + l.val, by omega⟩) = b (ix2 k l) := by
  unfold fn_main_v36; pointwise

theorem rows4_0 (a b c d : FVec Ideal S1x256 .f32) (l : Fin 256) : rows4 (F := Ideal) a b c d (ix2 0 l) = a (ix2 0 l) := by
  unfold rows4; pointwise
theorem rows4_1 (a b c d : FVec Ideal S1x256 .f32) (l : Fin 256) : rows4 (F := Ideal) a b c d (ix2 1 l) = b (ix2 0 l) := by
  unfold rows4; pointwise
theorem rows4_2 (a b c d : FVec Ideal S1x256 .f32) (l : Fin 256) : rows4 (F := Ideal) a b c d (ix2 2 l) = c (ix2 0 l) := by
  unfold rows4; pointwise
theorem rows4_3 (a b c d : FVec Ideal S1x256 .f32) (l : Fin 256) : rows4 (F := Ideal) a b c d (ix2 3 l) = d (ix2 0 l) := by
  unfold rows4; pointwise

end Cert.Proof.Weights
-- ==== Proof.Math.lean ====
/-
  The formulas of a row over the extended reals, as the kernel and as the reference compute them, and their equality.
-/
module

public import Idealize.ShloMosaic.Lib.Pointwise

@[expose] public section

namespace Cert.Proof.Math

open Idealize.ShloMosaic
open scoped BigOperators

/-- The normalisation's small constant, the leak below zero, and the softplus. -/
noncomputable def eps : EReal := Ideal.ofBits .f32 0x3727C5AC#32
noncomputable def leak (z : EReal) : EReal :=
  Scalar.select (FloatOps.cmpf (F := Ideal) (φ := .f32) .oge z (0 : EReal)) z (Ideal.ofBits .f32 0x3C23D70A#32 * z)
noncomputable def soft (y : EReal) : EReal :=
  max y 0 + Ideal.log (1 + Ideal.exp (0 - FloatOps.absf (F := Ideal) (φ := .f32) y))

/-- The normalisation of the row `s` with the averaging matrix `on`, and the softplus after it, at lane `l`. -/
noncomputable def norm256 (s : Fin 256 → EReal) (on : Fin 256 → Fin 256 → EReal) (g h : EReal) (l : Fin 256) : EReal :=
  soft (((s l - ∑ k : Fin 256, s k * on k l)
      * Ideal.rsqrt ((∑ k : Fin 256, ((s k - ∑ j : Fin 256, s j * on j k) * (s k - ∑ j : Fin 256, s j * on j k)) * on k l) + eps))
    * g + h)

/-- One sixteenth. -/
noncomputable def c16 : EReal := Ideal.ofBits .f32 0x3D800000#32

/-- The weighted sum of a row's three vectors, and its offset. -/
noncomputable def lin (a g e wa wg we : Fin 16 → EReal) (b : EReal) : EReal :=
  ((∑ p, a p * wa p + ∑ p, g p * wg p) + ∑ p, e p * we p) + b

/-- A row before its normalisation. -/
noncomputable def rowS (a g e va vg ve : Fin 16 → EReal) (ba : EReal) (wa wg we : Fin 16 → Fin 16 → EReal) (bl : Fin 16 → EReal)
    (q : Fin 16) : EReal :=
  a q + leak (lin a g e va vg ve ba) * lin a g e (fun p => wa p q) (fun p => wg p q) (fun p => we p q) (bl q)

theorem rowS_congr {a a' g g' e e' va va' vg vg' ve ve' : Fin 16 → EReal} {ba ba' : EReal} {wa wa' wg wg' we we' : Fin 16 → Fin 16 → EReal}
    {bl bl' : Fin 16 → EReal} (h1 : ∀ i, a i = a' i) (h2 : ∀ i, g i = g' i) (h3 : ∀ i, e i = e' i) (h4 : ∀ i, va i = va' i)
    (h5 : ∀ i, vg i = vg' i) (h6 : ∀ i, ve i = ve' i) (h7 : ba = ba') (h8 : ∀ i j, wa i j = wa' i j) (h9 : ∀ i j, wg i j = wg' i j)
    (h10 : ∀ i j, we i j = we' i j) (h11 : bl = bl') (q : Fin 16) :
    rowS a g e va vg ve ba wa wg we bl q = rowS a' g' e' va' vg' ve' ba' wa' wg' we' bl' q := by
  obtain rfl := funext h1
  obtain rfl := funext h2
  obtain rfl := funext h3
  obtain rfl := funext h4
  obtain rfl := funext h5
  obtain rfl := funext h6
  obtain rfl := h7
  obtain rfl := funext fun i => funext (h8 i)
  obtain rfl := funext fun i => funext (h9 i)
  obtain rfl := funext fun i => funext (h10 i)
  obtain rfl := h11
  rfl

/-- The normalisation as the kernel computes it. -/
noncomputable def normK (s : Fin 16 → EReal) (g h : EReal) (q : Fin 16) : EReal :=
  soft (((s q - ∑ p, s p * c16) * Ideal.rsqrt ((∑ p, ((s p - ∑ j, s j * c16) * (s p - ∑ j, s j * c16)) * c16) + eps)) * g + h)

/-- A sum against a block-diagonal matrix is the sum over the block. -/
theorem sum_blocks (f : Fin 256 → EReal) (w : Fin 16 → EReal) (o : Fin 16) :
    (∑ k : Fin 256, f k * ((if (⟨k.val / 16, by omega⟩ : Fin 16) = o then (1 : EReal) else 0) * w ⟨k.val % 16, by omega⟩))
      = ∑ p : Fin 16, f ⟨o.val * 16 + p.val, by omega⟩ * w p := by
  rw [Fin.sum_univ_tiles 16 16 rfl, Finset.sum_eq_single o]
  · refine Finset.sum_congr rfl fun p _ => ?_
    have h1 : (o.val * 16 + p.val) / 16 = o.val := by omega
    have h2 : (o.val * 16 + p.val) % 16 = p.val := by omega
    simp only [h1, h2, if_true, one_mul]
  · intro b _ hb
    refine Finset.sum_eq_zero fun p _ => ?_
    have h1 : (b.val * 16 + p.val) / 16 = b.val := by omega
    simp only [h1, hb, if_false, zero_mul, mul_zero]
  · simp

theorem norm_blocks (s : Fin 256 → EReal) (on : Fin 256 → Fin 256 → EReal) (g h : EReal) (o q : Fin 16)
    (hon : ∀ i j : Fin 256, on i j = (if (⟨i.val / 16, by omega⟩ : Fin 16) = ⟨j.val / 16, by omega⟩ then (1 : EReal) else 0) * c16) :
    norm256 s on g h ⟨o.val * 16 + q.val, by omega⟩ = normK (fun p => s ⟨o.val * 16 + p.val, by omega⟩) g h q := by
  have ho (p : Fin 16) : (⟨(o.val * 16 + p.val) / 16, by omega⟩ : Fin 16) = o := Fin.ext (by show (o.val * 16 + p.val) / 16 = o.val; omega)
  have e (f : Fin 256 → EReal) (p : Fin 16) :
      (∑ k : Fin 256, f k * on k ⟨o.val * 16 + p.val, by omega⟩) = ∑ i : Fin 16, f ⟨o.val * 16 + i.val, by omega⟩ * c16 := by
    rw [← sum_blocks f (fun _ => c16) o]
    refine Finset.sum_congr rfl fun k _ => ?_
    rw [hon, ho]
  unfold norm256 normK
  rw [e, e]
  simp only [e]

end Cert.Proof.Math
-- ==== Proof.Row.lean ====
module

public import proofs.«01_k».proof.Proof.Gen.KernelIdeal.Skeleton
public import proofs.«01_k».proof.Proof.Body
public import proofs.«01_k».proof.Proof.Weights
public import proofs.«01_k».proof.Proof.Math
public import Idealize.ShloMosaic.Lib.Pointwise
public import Idealize.ShloMosaic.Lib.MatmulPlain

@[expose] public section

/-! # The dense kernel's block, entry by entry, over the extended reals -/

namespace Cert.Proof.Row

open Cert.KernelIdeal Cert.KernelIdeal.Gen
open Cert.Proof.Dense Cert.Proof.Math Cert.Proof.Prep Cert.Proof.Weights
open Idealize.ShloMosaic Idealize.ShloMosaic.TcCoe
open scoped BigOperators

theorem pay3_apply (x : Vec Ideal S2000x256 .f32) (w : Vec Ideal S256x512 .f32) (r : Fin 2000) (j : Fin 512) :
    k1_pay3 x w (ix2 r j) = ∑ k : Fin 256, x (ix2 r k) * w (ix2 k j) := by
  unfold k1_pay3 k1_pay2; pointwise

theorem pay4_apply (x : Vec Ideal S2000x256 .f32) (w : Vec Ideal S256x512 .f32) (r : Fin 2000) (j : Fin 512) :
    k1_pay4 x w (ix2 r j) = ∑ k : Fin 256, x (ix2 r k) * w (ix2 k j) := by
  unfold k1_pay4; pointwise

theorem pay5_apply (x : Vec Ideal S2000x16 .f32) (w : Vec Ideal S16x512 .f32) (r : Fin 2000) (j : Fin 512) :
    k1_pay5 x w (ix2 r j) = ∑ k : Fin 16, x (ix2 r k) * w (ix2 k j) := by
  unfold k1_pay5; pointwise

theorem pay6_apply (xa : Vec Ideal S2000x256 .f32) (wa : Vec Ideal S256x512 .f32) (xg : Vec Ideal S2000x256 .f32) (wg : Vec Ideal S256x512 .f32)
    (xe : Vec Ideal S2000x16 .f32) (we : Vec Ideal S16x512 .f32) (k : Vec Ideal S1x256 .f32) (r : Fin 2000) (l : Fin 256) :
    k1_pay6 xa wa xg wg xe we k (ix2 r l)
      = ((k1_pay3 xa wa (ix2 r ⟨l.val, by omega⟩) + k1_pay4 xg wg (ix2 r ⟨l.val, by omega⟩)) + k1_pay5 xe we (ix2 r ⟨l.val, by omega⟩)) + k (ix2 0 l) := by
  unfold k1_pay6; pointwise

theorem pay7_apply (xa : Vec Ideal S2000x256 .f32) (wa : Vec Ideal S256x512 .f32) (xg : Vec Ideal S2000x256 .f32) (wg : Vec Ideal S256x512 .f32)
    (xe : Vec Ideal S2000x16 .f32) (we : Vec Ideal S16x512 .f32) (k : Vec Ideal S1x256 .f32) (r : Fin 2000) (l : Fin 256) :
    k1_pay7 xa wa xg wg xe we k (ix2 r l)
      = leak (((k1_pay3 xa wa (ix2 r ⟨256 + l.val, by omega⟩) + k1_pay4 xg wg (ix2 r ⟨256 + l.val, by omega⟩))
          + k1_pay5 xe we (ix2 r ⟨256 + l.val, by omega⟩)) + k (ix2 0 l)) := by
  unfold k1_pay7 leak; pointwise

theorem pay1_apply (a b c : Vec Ideal S2000x256 .f32) (on : Vec Ideal S256x256 .f32) (g h : Vec Ideal S1x256 .f32)
    (r : Fin 2000) (l : Fin 256) :
    k1_pay1 a b c on g h (ix2 r l)
      = norm256 (fun k => a (ix2 r k) + c (ix2 r k) * b (ix2 r k)) (fun i j => on (ix2 i j)) (g (ix2 0 l)) (h (ix2 0 l)) l := by
  unfold k1_pay1 norm256 soft eps; pointwise

theorem ld0 (k : Vec Ideal S4x256 .f32) (l : Fin 256) : View.ld k row0 (ix2 0 l) = k (ix2 0 l) :=
  congrArg k (funext fun a => Fin.ext (by match a with | ⟨0, _⟩ => rfl | ⟨1, _⟩ => show 0 + 1 * l.val = l.val; omega))
theorem ld1 (k : Vec Ideal S4x256 .f32) (l : Fin 256) : View.ld k row1 (ix2 0 l) = k (ix2 1 l) :=
  congrArg k (funext fun a => Fin.ext (by match a with | ⟨0, _⟩ => rfl | ⟨1, _⟩ => show 0 + 1 * l.val = l.val; omega))
theorem ld2 (k : Vec Ideal S4x256 .f32) (l : Fin 256) : View.ld k row2 (ix2 0 l) = k (ix2 2 l) :=
  congrArg k (funext fun a => Fin.ext (by match a with | ⟨0, _⟩ => rfl | ⟨1, _⟩ => show 0 + 1 * l.val = l.val; omega))
theorem ld3 (k : Vec Ideal S4x256 .f32) (l : Fin 256) : View.ld k row3 (ix2 0 l) = k (ix2 3 l) :=
  congrArg k (funext fun a => Fin.ext (by match a with | ⟨0, _⟩ => rfl | ⟨1, _⟩ => show 0 + 1 * l.val = l.val; omega))

theorem pay2_apply (x : Vec Ideal S2000x256 .f32) (r : Fin 2000) (l : Fin 256) : k1_pay2 x (ix2 r l) = x (ix2 r l) := by
  unfold k1_pay2; pointwise

theorem modq (o p : Fin 16) : (⟨(o.val * 16 + p.val) % 16, by omega⟩ : Fin 16) = p :=
  Fin.ext (by show (o.val * 16 + p.val) % 16 = p.val; omega)

theorem divq (o p : Fin 16) : (⟨(o.val * 16 + p.val) / 16, by omega⟩ : Fin 16) = o :=
  Fin.ext (by show (o.val * 16 + p.val) / 16 = o.val; omega)

/-- A sum against a Kronecker product with the identity. -/
theorem kron_sum (f : Fin 256 → EReal) (w : FVec Ideal S16x16 .f32) (o p : Fin 16) :
    (∑ k : Fin 256, f k * kron (F := Ideal) eye w (ix2 k ⟨o.val * 16 + p.val, by omega⟩))
      = ∑ i : Fin 16, f ⟨o.val * 16 + i.val, by omega⟩ * w (ix2 i p) := by
  rw [← sum_blocks f (fun i => w (ix2 i p)) o]
  refine Finset.sum_congr rfl fun k _ => ?_
  rw [kron_apply, eye_apply]
  simp only [modq, divq]

theorem v21_lo' (o : Fin 16) (a b : FVec Ideal S256x256 .f32) (k : Fin 256) (p : Fin 16) :
    fn_main_v21 (F := Ideal) a b (ix2 k ⟨o.val * 16 + p.val, by omega⟩) = a (ix2 k ⟨o.val * 16 + p.val, by omega⟩) :=
  v21_lo a b k ⟨o.val * 16 + p.val, by omega⟩

theorem v21_hi' (o : Fin 16) (a b : FVec Ideal S256x256 .f32) (k : Fin 256) (p : Fin 16) :
    fn_main_v21 (F := Ideal) a b (ix2 k ⟨256 + (o.val * 16 + p.val), by omega⟩) = b (ix2 k ⟨o.val * 16 + p.val, by omega⟩) :=
  v21_hi a b k ⟨o.val * 16 + p.val, by omega⟩

theorem v28_lo' (o : Fin 16) (a b : FVec Ideal S256x256 .f32) (k : Fin 256) (p : Fin 16) :
    fn_main_v28 (F := Ideal) a b (ix2 k ⟨o.val * 16 + p.val, by omega⟩) = a (ix2 k ⟨o.val * 16 + p.val, by omega⟩) :=
  v21_lo a b k ⟨o.val * 16 + p.val, by omega⟩

theorem v28_hi' (o : Fin 16) (a b : FVec Ideal S256x256 .f32) (k : Fin 256) (p : Fin 16) :
    fn_main_v28 (F := Ideal) a b (ix2 k ⟨256 + (o.val * 16 + p.val), by omega⟩) = b (ix2 k ⟨o.val * 16 + p.val, by omega⟩) :=
  v21_hi a b k ⟨o.val * 16 + p.val, by omega⟩

theorem v36_lo' (o : Fin 16) (a b : FVec Ideal S16x256 .f32) (k : Fin 16) (p : Fin 16) :
    fn_main_v36 (F := Ideal) a b (ix2 k ⟨o.val * 16 + p.val, by omega⟩) = a (ix2 k ⟨o.val * 16 + p.val, by omega⟩) :=
  v36_lo a b k ⟨o.val * 16 + p.val, by omega⟩

theorem v36_hi' (o : Fin 16) (a b : FVec Ideal S16x256 .f32) (k : Fin 16) (p : Fin 16) :
    fn_main_v36 (F := Ideal) a b (ix2 k ⟨256 + (o.val * 16 + p.val), by omega⟩) = b (ix2 k ⟨o.val * 16 + p.val, by omega⟩) :=
  v36_hi a b k ⟨o.val * 16 + p.val, by omega⟩

/-- A block's entry is the row formula of its sixteen lanes. -/
theorem blk_apply (xa xg : Vec Ideal S2000x256 .f32) (xe : Vec Ideal S2000x16 .f32) (wa wg we : FVec Ideal S16x16 .f32)
    (va vg ve : FVec Ideal S16x1 .f32) (bl : FVec Ideal S16 .f32) (ba : FVec Ideal S1 .f32) (γ β : FVec Ideal S16 .f32)
    (r : Fin 2000) (o q : Fin 16) :
    blk xa xg xe (fn_main_v21 (kron eye wa) (kron eye (col va))) (fn_main_v28 (kron eye wg) (kron eye (col vg)))
        (fn_main_v36 (tile256 we) (col256 ve))
        (kron (F := Ideal) eye (broadcastInDim S16x16 ![] bcast_S_S16x16 (constant (F := Ideal) S_ .f32 0x3D800000#32)))
        (rows4 (lane bl) (lane1 ba) (lane γ) (lane β)) (ix2 r ⟨o.val * 16 + q.val, by omega⟩)
      = normK (fun p => rowS (fun i => xa (ix2 r ⟨o.val * 16 + i.val, by omega⟩)) (fun i => xg (ix2 r ⟨o.val * 16 + i.val, by omega⟩))
            (fun i => xe (ix2 r i)) (fun i => va (ix2 i 0)) (fun i => vg (ix2 i 0)) (fun i => ve (ix2 i 0)) (ba (ix1 0))
            (fun i j => wa (ix2 i j)) (fun i j => wg (ix2 i j)) (fun i j => we (ix2 i j)) (fun j => bl (ix1 j)) p)
          (γ (ix1 q)) (β (ix1 q)) q := by
  unfold blk
  rw [pay1_apply, norm_blocks (hon := fun i j => by rw [kron_apply, eye_apply]; rfl)]
  rw [ld2, ld3, rows4_2, rows4_3, lane_apply, lane_apply]
  have h0 (p : Fin 16) : View.ld (rows4 (F := Ideal) (lane bl) (lane1 ba) (lane γ) (lane β)) row0 (ix2 0 ⟨o.val * 16 + p.val, by omega⟩) = bl (ix1 p) := by
    rw [ld0, rows4_0, lane_apply]; simp only [modq]
  have h1 (p : Fin 16) : View.ld (rows4 (F := Ideal) (lane bl) (lane1 ba) (lane γ) (lane β)) row1 (ix2 0 ⟨o.val * 16 + p.val, by omega⟩) = ba (ix1 0) := by
    rw [ld1, rows4_1, lane1_apply]
  simp only [pay6_apply, pay7_apply, pay3_apply, pay4_apply, pay5_apply, h0, h1, pay2_apply,
    v21_lo' o, v21_hi' o, v28_lo' o, v28_hi' o, v36_lo' o, v36_hi' o, kron_sum, col_apply, tile256_apply, col256_apply, modq]
  rfl

end Cert.Proof.Row
-- ==== Proof.Out.lean ====
/-
  The dense call's result array, entry by entry over the extended reals.
-/
module

public import proofs.«01_k».proof.Proof.Row
public import proofs.«01_k».proof.Proof.Region
public import Idealize.ShloMosaic.Lib.Pipeline.ValueKit.Geometry

@[expose] public section

noncomputable section

namespace Cert.Proof.Out

open Cert.KernelIdeal Cert.KernelIdeal.Gen
open Cert.Proof.Dense Cert.Proof.Math Cert.Proof.Prep Cert.Proof.Weights Cert.Proof.Row
open Idealize.ShloMosaic Idealize.ShloMosaic.TcCoe
open scoped BigOperators

variable (V : Dev nD → Valuation τ sig (Elt Ideal)) (c : Dev nD)

theorem e0 : ∀ t : Fin cfg1.N, win1_0.index t = ![t.val, 0] := (by decide +kernel : ∀ t : Fin grid1.N, _)
theorem e1 : ∀ t : Fin cfg1.N, win1_1.index t = ![t.val, 0] := (by decide +kernel : ∀ t : Fin grid1.N, _)
theorem e2 : ∀ t : Fin cfg1.N, win1_2.index t = ![t.val, 0] := (by decide +kernel : ∀ t : Fin grid1.N, _)
theorem e8 : ∀ t : Fin cfg1.N, win1_8.index t = ![t.val, 0] := (by decide +kernel : ∀ t : Fin grid1.N, _)
theorem e3 : ∀ t : Fin cfg1.N, win1_3.index t = ![0, 0] := (by decide +kernel : ∀ t : Fin grid1.N, _)
theorem e4 : ∀ t : Fin cfg1.N, win1_4.index t = ![0, 0] := (by decide +kernel : ∀ t : Fin grid1.N, _)
theorem e5 : ∀ t : Fin cfg1.N, win1_5.index t = ![0, 0] := (by decide +kernel : ∀ t : Fin grid1.N, _)
theorem e6 : ∀ t : Fin cfg1.N, win1_6.index t = ![0, 0] := (by decide +kernel : ∀ t : Fin grid1.N, _)
theorem e7 : ∀ t : Fin cfg1.N, win1_7.index t = ![0, 0] := (by decide +kernel : ∀ t : Fin grid1.N, _)

theorem lt80 (t : Fin cfg1.N) : t.val < 80 := t.isLt

theorem got0 (t : Fin cfg1.N) (r : Fin 2000) (l : Fin 256) :
    got V c 0 t (ix2 r l) = at' V c main_v56 (ix2 ⟨t.val * 2000 + r.val, by have := lt80 t; omega⟩ l) := by
  refine congrArg (at' V c main_v56) (funext fun a => Fin.ext ?_)
  match a with
  | ⟨0, _⟩ => blk_simp [e0]
  | ⟨1, _⟩ => blk_simp [e0]

theorem got1 (t : Fin cfg1.N) (r : Fin 2000) (l : Fin 256) :
    got V c 1 t (ix2 r l) = at' V c main_v60 (ix2 ⟨t.val * 2000 + r.val, by have := lt80 t; omega⟩ l) := by
  refine congrArg (at' V c main_v60) (funext fun a => Fin.ext ?_)
  match a with
  | ⟨0, _⟩ => blk_simp [e1]
  | ⟨1, _⟩ => blk_simp [e1]

theorem got2 (t : Fin cfg1.N) (r : Fin 2000) (l : Fin 16) :
    got V c 2 t (ix2 r l) = at' V c main_v57 (ix2 ⟨t.val * 2000 + r.val, by have := lt80 t; omega⟩ l) := by
  refine congrArg (at' V c main_v57) (funext fun a => Fin.ext ?_)
  match a with
  | ⟨0, _⟩ => blk_simp [e2]
  | ⟨1, _⟩ => blk_simp [e2]

theorem got3 (t : Fin cfg1.N) : got V c 3 t = at' V c main_v21 := by
  funext y
  refine congrArg (at' V c main_v21) (funext fun a => Fin.ext ?_)
  match a with
  | ⟨0, _⟩ => blk_simp [e3]
  | ⟨1, _⟩ => blk_simp [e3]

theorem got4 (t : Fin cfg1.N) : got V c 4 t = at' V c main_v28 := by
  funext y
  refine congrArg (at' V c main_v28) (funext fun a => Fin.ext ?_)
  match a with
  | ⟨0, _⟩ => blk_simp [e4]
  | ⟨1, _⟩ => blk_simp [e4]

theorem got5 (t : Fin cfg1.N) : got V c 5 t = at' V c main_v36 := by
  funext y
  refine congrArg (at' V c main_v36) (funext fun a => Fin.ext ?_)
  match a with
  | ⟨0, _⟩ => blk_simp [e5]
  | ⟨1, _⟩ => blk_simp [e5]

theorem got6 (t : Fin cfg1.N) : got V c 6 t = at' V c main_v38 := by
  funext y
  refine congrArg (at' V c main_v38) (funext fun a => Fin.ext ?_)
  match a with
  | ⟨0, _⟩ => blk_simp [e6]
  | ⟨1, _⟩ => blk_simp [e6]

theorem got7 (t : Fin cfg1.N) : got V c 7 t = at' V c main_v54 := by
  funext y
  refine congrArg (at' V c main_v54) (funext fun a => Fin.ext ?_)
  match a with
  | ⟨0, _⟩ => blk_simp [e7]
  | ⟨1, _⟩ => blk_simp [e7]

/-- The host's weights and constants at the valuation, of the slices and vectors named. -/
structure Host (wa wg we : FVec Ideal S16x16 .f32) (va vg ve : FVec Ideal S16x1 .f32) (bl : FVec Ideal S16 .f32) (ba : FVec Ideal S1 .f32)
    (γ β : FVec Ideal S16 .f32) : Prop where
  h3 : at' V c main_v21 = fn_main_v21 (kron eye wa) (kron eye (col va))
  h4 : at' V c main_v28 = fn_main_v28 (kron eye wg) (kron eye (col vg))
  h5 : at' V c main_v36 = fn_main_v36 (tile256 we) (col256 ve)
  h6 : at' V c main_v38 = kron (F := Ideal) eye (broadcastInDim S16x16 ![] bcast_S_S16x16 (constant (F := Ideal) S_ .f32 0x3D800000#32))
  h7 : at' V c main_v54 = rows4 (lane bl) (lane1 ba) (lane γ) (lane β)

variable {wa wg we : FVec Ideal S16x16 .f32} {va vg ve : FVec Ideal S16x1 .f32} {bl : FVec Ideal S16 .f32} {ba : FVec Ideal S1 .f32}
  {γ β : FVec Ideal S16 .f32}

/-- The result's entry at row `R`, group `o` and channel `q`. -/
def ent (af ge : S160000x256.Idx → EReal) (e3 : S160000x16.Idx → EReal) (wa wg we : FVec Ideal S16x16 .f32) (va vg ve : FVec Ideal S16x1 .f32)
    (bl : FVec Ideal S16 .f32) (ba : FVec Ideal S1 .f32) (γ β : FVec Ideal S16 .f32) (R : Fin 160000) (o q : Fin 16) : EReal :=
  normK (fun p => rowS (fun i => af (ix2 R ⟨o.val * 16 + i.val, by omega⟩)) (fun i => ge (ix2 R ⟨o.val * 16 + i.val, by omega⟩))
      (fun i => e3 (ix2 R i)) (fun i => va (ix2 i 0)) (fun i => vg (ix2 i 0)) (fun i => ve (ix2 i 0)) (ba (ix1 0))
      (fun i j => wa (ix2 i j)) (fun i j => wg (ix2 i j)) (fun i j => we (ix2 i j)) (fun j => bl (ix1 j)) p)
    (γ (ix1 q)) (β (ix1 q)) q

def arr (af ge : S160000x256.Idx → EReal) (e3 : S160000x16.Idx → EReal) (wa wg we : FVec Ideal S16x16 .f32) (va vg ve : FVec Ideal S16x1 .f32)
    (bl : FVec Ideal S16 .f32) (ba : FVec Ideal S1 .f32) (γ β : FVec Ideal S16 .f32) : S160000x256.Idx → EReal := fun y =>
  ent af ge e3 wa wg we va vg ve bl ba γ β ⟨(y 0).val, (y 0).isLt⟩ ⟨(y 1).val / 16, by have : (y 1).val < 256 := (y 1).isLt; omega⟩
    ⟨(y 1).val % 16, by omega⟩

theorem ent_congr {af ge : S160000x256.Idx → EReal} {e3 : S160000x16.Idx → EReal} (R R' : Fin 160000) (o o' q q' : Fin 16)
    (hR : R.val = R'.val) (ho : o.val = o'.val) (hq : q.val = q'.val) :
    ent af ge e3 wa wg we va vg ve bl ba γ β R o q = ent af ge e3 wa wg we va vg ve bl ba γ β R' o' q' := by
  obtain rfl := Fin.ext hR
  obtain rfl := Fin.ext ho
  obtain rfl := Fin.ext hq
  rfl

theorem left_apply (H : Host V c wa wg we va vg ve bl ba γ β) (t : Fin cfg1.N) (r : Fin 2000) (o q : Fin 16) :
    left V c t (ix2 r ⟨o.val * 16 + q.val, by omega⟩)
      = ent (at' V c main_v56) (at' V c main_v60) (at' V c main_v57) wa wg we va vg ve bl ba γ β
          ⟨t.val * 2000 + r.val, by have := lt80 t; omega⟩ o q := by
  unfold left
  rw [got3, got4, got5, got6, got7, H.h3, H.h4, H.h5, H.h6, H.h7, blk_apply]
  simp only [got0, got1, got2]
  rfl

theorem res_eq (H : Host V c wa wg we va vg ve bl ba γ β) :
    res V c = arr (at' V c main_v56) (at' V c main_v60) (at' V c main_v57) wa wg we va vg ve bl ba γ β := by
  refine (dat V c).arrAt_eq_of_covers 8 _ (by decide +kernel) fun t hf y => ?_
  blk_simp
  rw [after_out]
  have hy0 : (y 0).val < 2000 := (y 0).isLt
  have hy1 : (y 1).val < 256 := (y 1).isLt
  have hy : y = ix2 (⟨(y 0).val, hy0⟩ : Fin 2000) (⟨((⟨(y 1).val / 16, by omega⟩ : Fin 16)).val * 16 + ((⟨(y 1).val % 16, by omega⟩ : Fin 16)).val, by
      show (y 1).val / 16 * 16 + (y 1).val % 16 < 256; omega⟩ : Fin 256) := by
    funext a; apply Fin.ext
    match a with
    | ⟨0, _⟩ => rfl
    | ⟨1, _⟩ => show (y 1).val = (y 1).val / 16 * 16 + (y 1).val % 16; omega
  have hl : left V c t y = _ := (congrArg (left V c t) hy).trans (left_apply V c H t _ _ _)
  refine hl.trans ?_
  refine ent_congr _ _ _ _ _ _ ?_ ?_ ?_
  · blk_simp [e8]
  · blk_simp [e8]
  · blk_simp [e8]

theorem res_apply (H : Host V c wa wg we va vg ve bl ba γ β) (R : Fin 160000) (o q : Fin 16) :
    res V c (ix2 R ⟨o.val * 16 + q.val, by omega⟩)
      = ent (at' V c main_v56) (at' V c main_v60) (at' V c main_v57) wa wg we va vg ve bl ba γ β R o q := by
  rw [res_eq V c H]
  refine ent_congr _ _ _ _ _ _ rfl ?_ ?_
  · show (o.val * 16 + q.val) / 16 = o.val; omega
  · show (o.val * 16 + q.val) % 16 = q.val; omega

end Cert.Proof.Out
-- ==== Proof.Spec.lean ====
/-
  The result's entry as a formula of the nine arguments, over the extended reals.
-/
module

public import proofs.«01_k».proof.Proof.Math

@[expose] public section

noncomputable section

namespace Cert.Proof.Math

open Idealize.ShloMosaic
open scoped BigOperators

variable (A : (⟨4, ![10000, 16, 16, 16]⟩ : Shape).Idx → EReal) (E : (⟨3, ![10000, 16, 16]⟩ : Shape).Idx → EReal)
  (I : (⟨2, ![10000, 16]⟩ : Shape).Idx → BitVec 32) (Wa : (⟨2, ![48, 1]⟩ : Shape).Idx → EReal) (ba : (⟨1, ![1]⟩ : Shape).Idx → EReal)
  (Wl : (⟨2, ![48, 16]⟩ : Shape).Idx → EReal) (bl γ β : (⟨1, ![16]⟩ : Shape).Idx → EReal)

/-- The row the index list names. -/
abbrev nbr (n : Fin 10000) (m : Fin 16) : Fin 10000 := ⟨(I (ix2 n m)).toNat % 10000, Nat.mod_lt _ (by decide)⟩

/-- The gated update at one entry, before its normalisation. -/
def upd (n : Fin 10000) (m o p : Fin 16) : EReal :=
  rowS (fun i => A (ix4 n m o i)) (fun i => E (ix3 (nbr I n m) o i)) (fun i => E (ix3 n m i))
    (fun i => Wa (ix2 (⟨32 + i.val, by omega⟩ : Fin 48) (0 : Fin 1))) (fun i => Wa (ix2 (⟨16 + i.val, by omega⟩ : Fin 48) (0 : Fin 1)))
    (fun i => Wa (ix2 (⟨i.val, by omega⟩ : Fin 48) (0 : Fin 1))) (ba (ix1 0))
    (fun i j => Wl (ix2 (⟨32 + i.val, by omega⟩ : Fin 48) j)) (fun i j => Wl (ix2 (⟨16 + i.val, by omega⟩ : Fin 48) j))
    (fun i j => Wl (ix2 (⟨i.val, by omega⟩ : Fin 48) j)) (fun j => bl (ix1 j)) p

/-- The result's entry. -/
def spec (n : Fin 10000) (m o q : Fin 16) : EReal := normK (upd A E I Wa ba Wl bl n m o) (γ (ix1 q)) (β (ix1 q)) q

theorem spec_congr {A A' : (⟨4, ![10000, 16, 16, 16]⟩ : Shape).Idx → EReal} {E E' : (⟨3, ![10000, 16, 16]⟩ : Shape).Idx → EReal}
    {I I' : (⟨2, ![10000, 16]⟩ : Shape).Idx → BitVec 32} {Wa Wa' : (⟨2, ![48, 1]⟩ : Shape).Idx → EReal} {ba ba' : (⟨1, ![1]⟩ : Shape).Idx → EReal}
    {Wl Wl' : (⟨2, ![48, 16]⟩ : Shape).Idx → EReal} {bl bl' γ γ' β β' : (⟨1, ![16]⟩ : Shape).Idx → EReal}
    (h0 : A = A') (h1 : E = E') (h2 : I = I') (h3 : Wa = Wa') (h4 : ba = ba') (h5 : Wl = Wl') (h6 : bl = bl') (h7 : γ = γ') (h8 : β = β')
    (n : Fin 10000) (m o q : Fin 16) : spec A E I Wa ba Wl bl γ β n m o q = spec A' E' I' Wa' ba' Wl' bl' γ' β' n m o q := by
  subst h0 h1 h2 h3 h4 h5 h6 h7 h8; rfl

end Cert.Proof.Math
-- ==== Proof.Val.lean ====
/-
  The kernel's result, entry by entry over the extended reals.
-/
module

public import proofs.«01_k».proof.Proof.Out
public import proofs.«01_k».proof.Proof.Spec
public import proofs.«01_k».proof.Proof.Launch

@[expose] public section

noncomputable section

namespace Cert.Proof.Val

open Cert.KernelIdeal Cert.KernelIdeal.Gen
open Cert.Proof.Dense Cert.Proof.Math Cert.Proof.Prep Cert.Proof.Weights Cert.Proof.Row Cert.Proof.Out
open Cert.Proof.Tile (W0 W1 W3 W5 G0 TA LI gath wordAt bLoc)
open Idealize.ShloMosaic Idealize.ShloMosaic.TcCoe
open scoped BigOperators

variable (m : (ℓ : Loc nD τ sig) → Buf (Elt Ideal) ℓ) (d : Dev nD)

theorem host : Host (W3 m) d (extractStridedSlice S16x16 ![32, 0] (W0 m d (Proc.devRef .tc main_arg5)) slices_S48x16_S16x16_32_0)
    (extractStridedSlice S16x16 ![16, 0] (W0 m d (Proc.devRef .tc main_arg5)) slices_S48x16_S16x16_16_0)
    (extractStridedSlice S16x16 ![0, 0] (W0 m d (Proc.devRef .tc main_arg5)) slices_S48x16_S16x16_0_0)
    (extractStridedSlice S16x1 ![32, 0] (W0 m d (Proc.devRef .tc main_arg3)) slices_S48x1_S16x1_32_0)
    (extractStridedSlice S16x1 ![16, 0] (W0 m d (Proc.devRef .tc main_arg3)) slices_S48x1_S16x1_16_0)
    (extractStridedSlice S16x1 ![0, 0] (W0 m d (Proc.devRef .tc main_arg3)) slices_S48x1_S16x1_0_0)
    (W0 m d (Proc.devRef .tc main_arg6)) (W0 m d (Proc.devRef .tc main_arg4)) (W0 m d (Proc.devRef .tc main_arg7)) (W0 m d (Proc.devRef .tc main_arg8)) where
  h3 := (Tile.W3_other m d main_v21 (by decide)).trans (W_v21 (W0 m d))
  h4 := (Tile.W3_other m d main_v28 (by decide)).trans (W_v28 (W0 m d))
  h5 := (Tile.W3_other m d main_v36 (by decide)).trans (W_v36 (W0 m d))
  h6 := (Tile.W3_other m d main_v38 (by decide)).trans (W_v38 (W0 m d))
  h7 := (Tile.W3_other m d main_v54 (by decide)).trans (W_v54 (W0 m d))

/-- The angle features' row and lane. -/
theorem af_apply (n : Fin 10000) (k o i : Fin 16) :
    at' (W3 m) d main_v56 (ix2 (⟨n.val * 16 + k.val, by omega⟩ : Fin 160000) (⟨o.val * 16 + i.val, by omega⟩ : Fin 256))
      = W0 m d (Proc.devRef .tc main_arg0) (ix4 n k o i) := by
  rw [show at' (W3 m) d main_v56 = _ from (Tile.W3_other m d main_v56 (by decide)).trans (W_v56 (W0 m d))]
  pointwise

theorem e3_apply (n : Fin 10000) (k i : Fin 16) :
    at' (W3 m) d main_v57 (ix2 (⟨n.val * 16 + k.val, by omega⟩ : Fin 160000) i) = W0 m d (Proc.devRef .tc main_arg1) (ix3 n k i) := by
  rw [show at' (W3 m) d main_v57 = _ from (Tile.W3_other m d main_v57 (by decide)).trans (W_v57 (W0 m d))]
  pointwise

theorem word_apply (n : Fin 10000) (k : Fin 16) :
    wordAt (LI m d) (n.val * 16 + k.val) = W0 m d (Proc.devRef .tc main_arg2) (ix2 n k) := by
  unfold wordAt
  rw [dif_pos (show n.val * 16 + k.val < 160000 by omega)]
  show shapeCast S1x160000 (W0 m d (Proc.devRef .tc main_arg2)) _ _ = _
  pointwise
  refine congrArg (W0 m d (Proc.devRef .tc main_arg2)) (funext fun a => Fin.ext ?_)
  match a with
  | ⟨0, _⟩ => show (n.val * 16 + k.val) / 16 = n.val; omega
  | ⟨1, _⟩ => show (n.val * 16 + k.val) % 16 = k.val; omega

theorem ge_apply (n : Fin 10000) (k o i : Fin 16) :
    at' (W3 m) d main_v60 (ix2 (⟨n.val * 16 + k.val, by omega⟩ : Fin 160000) (⟨o.val * 16 + i.val, by omega⟩ : Fin 256))
      = W0 m d (Proc.devRef .tc main_arg1) (ix3 (nbr (W0 m d (Proc.devRef .tc main_arg2)) n k) o i) := by
  rw [show at' (W3 m) d main_v60 = _ from Tile.W3_ge m d]
  have h : shapeCast S160000x256 (G0 m d) shapeCasts_S160000x2x128_S160000x256
        (ix2 (⟨n.val * 16 + k.val, by omega⟩ : Fin 160000) (⟨o.val * 16 + i.val, by omega⟩ : Fin 256))
      = G0 m d (ix3 (⟨n.val * 16 + k.val, by omega⟩ : Fin 160000) (⟨(o.val * 16 + i.val) / 128, by omega⟩ : Fin 2)
          (⟨(o.val * 16 + i.val) % 128, by omega⟩ : Fin 128)) := by pointwise
  rw [h]
  show TA m d (ix3 _ _ _) = _
  have e : (⟨(wordAt (LI m d) (n.val * 16 + k.val)).toNat % 10000, Nat.mod_lt _ (by decide)⟩ : Fin 10000)
      = nbr (W0 m d (Proc.devRef .tc main_arg2)) n k := by
    apply Fin.ext; show _ % 10000 = _ % 10000; rw [word_apply]
  show TA m d (ix3 (⟨(wordAt (LI m d) (n.val * 16 + k.val)).toNat % 10000, Nat.mod_lt _ (by decide)⟩ : Fin 10000)
    (⟨(o.val * 16 + i.val) / 128, by omega⟩ : Fin 2) (⟨(o.val * 16 + i.val) % 128, by omega⟩ : Fin 128)) = _
  rw [e]
  generalize nbr (W0 m d (Proc.devRef .tc main_arg2)) n k = g
  show shapeCast S10000x2x128 (W0 m d (Proc.devRef .tc main_arg1)) _ _ = _
  pointwise

theorem s32 (x : FVec Ideal S48x16 .f32) (i j : Fin 16) :
    extractStridedSlice S16x16 ![32, 0] x slices_S48x16_S16x16_32_0 (ix2 i j) = x (ix2 ⟨32 + i.val, by omega⟩ j) := by pointwise

theorem s16 (x : FVec Ideal S48x16 .f32) (i j : Fin 16) :
    extractStridedSlice S16x16 ![16, 0] x slices_S48x16_S16x16_16_0 (ix2 i j) = x (ix2 ⟨16 + i.val, by omega⟩ j) := by pointwise

theorem s0 (x : FVec Ideal S48x16 .f32) (i j : Fin 16) :
    extractStridedSlice S16x16 ![0, 0] x slices_S48x16_S16x16_0_0 (ix2 i j) = x (ix2 ⟨i.val, by omega⟩ j) := by pointwise

theorem t32 (x : FVec Ideal S48x1 .f32) (i : Fin 16) :
    extractStridedSlice S16x1 ![32, 0] x slices_S48x1_S16x1_32_0 (ix2 i 0) = x (ix2 ⟨32 + i.val, by omega⟩ 0) := by pointwise

theorem t16 (x : FVec Ideal S48x1 .f32) (i : Fin 16) :
    extractStridedSlice S16x1 ![16, 0] x slices_S48x1_S16x1_16_0 (ix2 i 0) = x (ix2 ⟨16 + i.val, by omega⟩ 0) := by pointwise

theorem t0 (x : FVec Ideal S48x1 .f32) (i : Fin 16) :
    extractStridedSlice S16x1 ![0, 0] x slices_S48x1_S16x1_0_0 (ix2 i 0) = x (ix2 ⟨i.val, by omega⟩ 0) := by pointwise

theorem out_cast (x : FVec Ideal S160000x256 .f32) (n : Fin 10000) (k o q : Fin 16) :
    shapeCast S10000x16x16x16 x shapeCasts_S160000x256_S10000x16x16x16 (ix4 n k o q)
      = x (ix2 (⟨n.val * 16 + k.val, by omega⟩ : Fin 160000) (⟨o.val * 16 + q.val, by omega⟩ : Fin 256)) := by pointwise

/-- The kernel's result at one entry. -/
theorem result_apply (n : Fin 10000) (k o q : Fin 16) :
    W5 m d (Proc.devRef .tc main_v62) (ix4 n k o q)
      = spec (W0 m d (Proc.devRef .tc main_arg0)) (W0 m d (Proc.devRef .tc main_arg1)) (W0 m d (Proc.devRef .tc main_arg2))
          (W0 m d (Proc.devRef .tc main_arg3)) (W0 m d (Proc.devRef .tc main_arg4)) (W0 m d (Proc.devRef .tc main_arg5))
          (W0 m d (Proc.devRef .tc main_arg6)) (W0 m d (Proc.devRef .tc main_arg7)) (W0 m d (Proc.devRef .tc main_arg8)) n k o q := by
  rw [Tile.W5_res]
  refine (out_cast _ n k o q).trans ((res_apply (W3 m) d (host m d) _ o q).trans ?_)
  unfold ent spec upd
  refine congrArg (fun f => normK f _ _ q) (funext fun p => ?_)
  refine rowS_congr (fun i => af_apply m d n k o i) (fun i => ge_apply m d n k o i) (fun i => e3_apply m d n k i)
    (fun i => t32 _ i) (fun i => t16 _ i) (fun i => t0 _ i) rfl (fun i j => s32 _ i j) (fun i j => s16 _ i j) (fun i j => s0 _ i j) rfl p

end Cert.Proof.Val
-- ==== Proof.Ref.lean ====
/-
  The rows the reference takes, at indices in range.
-/
module

public import proofs.«01_k».proof.Proof.Spec
public import proofs.«01_k».proof.Proof.Gen.ReferenceIdeal.Run

@[expose] public section

noncomputable section

namespace Cert.Proof.Ref

open Cert.ReferenceIdeal Cert.ReferenceIdeal.Gen Idealize.ShloMosaic
open Cert.Proof.Math (nbr)

variable (e : FVec Ideal S10000x16x16 .f32) (x : S10000x16.Idx → BitVec 32)

/-- The indices, with 10000 added to what is below zero. -/
abbrev wrapped : IVec S10000x16 32 :=
  select (cmpi .slt x (broadcastInDim S10000x16 ![] bcast_S_S10000x16 (constantI S_ 32 0#32)))
    (addi x (broadcastInDim S10000x16 ![] bcast_S_S10000x16 (constantI S_ 32 10000#32))) x
abbrev starts : IVec S10000x16x1 32 := broadcastInDim S10000x16x1 ![0, 1] bcast_S10000x16_S10000x16x1_0_1 (wrapped x)
abbrev inside : IVec S10000x16 1 :=
  Host.reduce IntOp.andi
    (andi (cmpi .sge (starts x) (broadcastInDim S10000x16x1 ![] bcast_S_S10000x16x1 (constantI S_ 32 0#32)))
      (cmpi .sle (starts x) (broadcastInDim S10000x16x1 ![0, 1, 2] bcast_S1x1x1_S10000x16x1_0_1_2
        (broadcastInDim S1x1x1 ![2] bcast_S1_S1x1x1_2 (constantI S1 32 9999#32)))))
    (constantI S_ 1 1#1) reducesTo_S10000x16x1_S10000x16_d2 h_S_
abbrev taken : FVec Ideal S10000x16x16x16 .f32 :=
  select (broadcastInDim S10000x16x16x16 ![0, 1] bcast_S10000x16_S10000x16x16x16_0_1 (inside x))
    (Host.gather gather_S10000x16x16_S10000x16x1_S10000x16x16x16_23_0_n_n_0_2_11616 e (starts x))
    (broadcastInDim S10000x16x16x16 ![] bcast_S_S10000x16x16x16 (constant (F := Ideal) S_ .f32 0x7FC00000#32))

variable {x}

theorem toInt_of_small {v : BitVec 32} (h : v.toNat < 10000) : v.toInt = (v.toNat : ℤ) := by
  rw [BitVec.toInt_eq_toNat_cond, if_pos (by omega)]

/-- A conjunction of ones is one. -/
theorem reduce_ones {s t u : Shape} {axes : List (Fin s.rank)} (b : s.Idx → BitVec 1) (i : u.Idx → BitVec 1) (h : s.ReducesTo axes t) (hu : 0 < u.numel)
    (hb : ∀ j, b j = 1#1) (hi : ∀ j, i j = 1#1) (j : t.Idx) : Host.reduce IntOp.andi b i h hu j = 1#1 := by
  unfold Host.reduce
  rw [hi]
  generalize List.filter _ _ = l
  induction l with
  | nil => rfl
  | cons a l ih => rw [List.foldl_cons, hb]; exact ih

variable (hx : ∀ j, (x j).toNat < 10000)
include hx

theorem wrapped_eq : wrapped x = x := by
  funext j
  have h := hx j
  show Scalar.select (IntOp.cmpi .slt (x j) 0#32) _ _ = _
  have : IntOp.cmpi .slt (x j) 0#32 = 0#1 := by
    show BitVec.ofBool ((x j).slt 0#32) = 0#1
    rw [BitVec.slt_eq_decide, toInt_of_small h]
    rw [decide_eq_false (by simp)]; rfl
  rw [this]; rfl

theorem inside_eq (j : S10000x16.Idx) : inside x j = 1#1 := by
  have hb : ∀ i : S10000x16x1.Idx, andi (cmpi .sge (starts x) (broadcastInDim S10000x16x1 ![] bcast_S_S10000x16x1 (constantI S_ 32 0#32)))
      (cmpi .sle (starts x) (broadcastInDim S10000x16x1 ![0, 1, 2] bcast_S1x1x1_S10000x16x1_0_1_2
        (broadcastInDim S1x1x1 ![2] bcast_S1_S1x1x1_2 (constantI S1 32 9999#32)))) i = 1#1 := by
    intro i
    have h : (starts x i).toNat < 10000 := by
      show (wrapped x _).toNat < 10000
      rw [wrapped_eq hx]; exact hx _
    show IntOp.andi (BitVec.ofBool ((0#32).sle (starts x i))) (BitVec.ofBool ((starts x i).sle 9999#32)) = 1#1
    generalize starts x i = v at h
    rw [BitVec.sle_eq_decide, BitVec.sle_eq_decide, toInt_of_small h]
    rw [decide_eq_true (by simp), decide_eq_true (by simp; omega)]; rfl
  exact reduce_ones _ _ _ _ hb (fun _ => rfl) j

abbrev dims : GatherDims S10000x16x16 S10000x16x1 S10000x16x16x16 := gather_S10000x16x16_S10000x16x1_S10000x16x16x16_23_0_n_n_0_2_11616

theorem taken_apply (n : Fin 10000) (k o i : Fin 16) : taken e x (ix4 n k o i) = e (ix3 (nbr x n k) o i) := by
  have hm : (broadcastInDim S10000x16x16x16 ![0, 1] bcast_S10000x16_S10000x16x16x16_0_1 (inside x)) (ix4 n k o i) = 1#1 := inside_eq hx _
  show Scalar.select ((broadcastInDim S10000x16x16x16 ![0, 1] bcast_S10000x16_S10000x16x16x16_0_1 (inside x)) (ix4 n k o i)) _ _ = _
  rw [hm]
  show Host.gather gather_S10000x16x16_S10000x16x1_S10000x16x16x16_23_0_n_n_0_2_11616 e (starts x) (ix4 n k o i) = _
  unfold Host.gather
  refine congrArg e (funext fun a => Fin.ext ?_)
  match a with
  | ⟨0, _⟩ =>
    show dims.start (ix4 n k o i) (starts x) 0 + dims.batchCoord (ix4 n k o i) 0 + dims.offCoord (ix4 n k o i) 0 = _
    rw [dims.batchCoord_eq_zero _ _ List.not_mem_nil, dims.offCoord_eq_zero _ _ (fun h => ((dims.mem_sKept _).mp h).1 (List.mem_singleton.mpr rfl))]
    unfold GatherDims.start
    rw [dif_pos (show (0 : Fin 3) ∈ dims.startIndexMap from List.mem_singleton.mpr rfl)]
    have hsi : dims.siIdx (ix4 n k o i) ⟨List.idxOf (0 : Fin 3) dims.startIndexMap, List.idxOf_lt_length_iff.2 (List.mem_singleton.mpr rfl)⟩
        = ix3 n k (0 : Fin 1) := by
      funext b; refine Fin.ext ?_
      match b with
      | ⟨0, _⟩ => rfl
      | ⟨1, _⟩ => rfl
      | ⟨2, _⟩ => rfl
    rw [hsi]
    have hs : starts x (ix3 n k (0 : Fin 1)) = x (ix2 n k) := by
      show wrapped x _ = _
      rw [wrapped_eq hx]
      refine congrArg x (funext fun b => Fin.ext ?_)
      match b with
      | ⟨0, _⟩ => rfl
      | ⟨1, _⟩ => rfl
    rw [hs]
    have h := hx (ix2 n k)
    rw [toInt_of_small h]
    show min (Int.toNat _) (10000 - 1) + 0 + 0 = _ % 10000
    rw [Int.toNat_natCast, Nat.mod_eq_of_lt h]; omega
  | ⟨1, _⟩ =>
    show dims.start (ix4 n k o i) (starts x) 1 + dims.batchCoord (ix4 n k o i) 1 + dims.offCoord (ix4 n k o i) 1 = _
    rw [dims.batchCoord_eq_zero _ _ List.not_mem_nil, Nat.add_zero]
    unfold GatherDims.start GatherDims.offCoord
    rw [dif_neg (show (1 : Fin 3) ∉ dims.startIndexMap from by decide), dif_pos (show (1 : Fin 3) ∈ dims.sKept from by decide), Nat.zero_add]
    rfl
  | ⟨2, _⟩ =>
    show dims.start (ix4 n k o i) (starts x) 2 + dims.batchCoord (ix4 n k o i) 2 + dims.offCoord (ix4 n k o i) 2 = _
    rw [dims.batchCoord_eq_zero _ _ List.not_mem_nil, Nat.add_zero]
    unfold GatherDims.start GatherDims.offCoord
    rw [dif_neg (show (2 : Fin 3) ∉ dims.startIndexMap from by decide), dif_pos (show (2 : Fin 3) ∈ dims.sKept from by decide), Nat.zero_add]
    rfl

end Cert.Proof.Ref
-- ==== Proof.Norm.lean ====
/-
  The normalisation and the softplus as the kernel and as the reference compute them, equal over the extended reals.
-/
module

public import proofs.«01_k».proof.Proof.Math

@[expose] public section

noncomputable section

namespace Cert.Proof.Math

open Idealize.ShloMosaic
open scoped BigOperators

/-- Sixteen, as the reference writes it. -/
def sixteen : EReal := Ideal.ofBits .f32 0x41800000#32

theorem c16_eq : c16 = (((1 : ℝ) / 16 : ℝ) : EReal) := by
  unfold c16; simp [Ideal.ofBits, Ideal.ieee, -EReal.coe_mul]; norm_num

theorem sixteen_eq : sixteen = ((16 : ℝ) : EReal) := by
  unfold sixteen; simp [Ideal.ofBits, Ideal.ieee, -EReal.coe_mul]; norm_num

theorem eps_pos : 0 < eps := by
  have h : ∃ r : ℝ, 0 < r ∧ eps = (r : EReal) := by
    refine ⟨(10995116 : ℝ) / 2 ^ 40, by norm_num, ?_⟩
    unfold eps; simp [Ideal.ofBits, Ideal.ieee, -EReal.coe_mul]; norm_num
  obtain ⟨r, hr, e⟩ := h
  rw [e]; exact_mod_cast hr

theorem div_sixteen (x : EReal) : Ideal.div x sixteen = x * c16 := by
  unfold Ideal.div
  rw [sixteen_eq, c16_eq, if_neg (by norm_num), ← EReal.coe_inv]
  norm_num

theorem sum_mul_c16 {ι : Type} (t : Finset ι) (f : ι → EReal) : (∑ i ∈ t, f i * c16) = (∑ i ∈ t, f i) * c16 := by
  classical
  have h0 : (0 : EReal) ≤ c16 := by rw [c16_eq]; exact_mod_cast (by norm_num : (0 : ℝ) ≤ 1 / 16)
  have h1 : c16 ≠ ⊤ := by rw [c16_eq]; exact EReal.coe_ne_top _
  induction t using Finset.induction_on with
  | empty => simp
  | insert a t ha ih => rw [Finset.sum_insert ha, Finset.sum_insert ha, ih, EReal.right_distrib_of_nonneg_of_ne_top h0 h1]

theorem sq_nonneg' (x : EReal) : 0 ≤ x * x := by
  rcases le_total 0 x with h | h
  · exact mul_nonneg h h
  · have := mul_nonneg (EReal.neg_nonneg.mpr h) (EReal.neg_nonneg.mpr h)
    rwa [neg_mul_neg] at this

/-- Dividing by a square root is multiplying by the reciprocal root, of a positive number. -/
theorem div_sqrt (x w : EReal) (hw : 0 < w) : Ideal.div x (Ideal.sqrt w) = x * Ideal.rsqrt w := by
  induction w using EReal.rec with
  | bot => exact absurd hw (by simp)
  | top =>
    show Ideal.div x ⊤ = x * 0
    unfold Ideal.div
    rw [if_neg (by simp), EReal.inv_top]
  | coe r =>
    have hr : 0 < r := by exact_mod_cast hw
    have e1 : Ideal.sqrt (r : EReal) = (Real.sqrt r : EReal) := by
      show (if r < 0 then ⊥ else (Real.sqrt r : EReal)) = _
      rw [if_neg (not_lt.mpr hr.le)]
    have e2 : Ideal.rsqrt (r : EReal) = ((Real.sqrt r)⁻¹ : ℝ) := by
      show (if r < 0 then ⊥ else if r = 0 then ⊤ else (((Real.sqrt r)⁻¹ : ℝ) : EReal)) = _
      rw [if_neg (not_lt.mpr hr.le), if_neg hr.ne']
    have hs : Real.sqrt r ≠ 0 := (Real.sqrt_pos.mpr hr).ne'
    rw [e1, e2]
    unfold Ideal.div
    rw [if_neg (by exact_mod_cast hs), EReal.coe_inv]

/-- The normalisation as the reference computes it. -/
def preR (s : Fin 16 → EReal) (g h : EReal) (q : Fin 16) : EReal :=
  Ideal.div (s q - Ideal.div (∑ p, s p) sixteen)
      (Ideal.sqrt (Ideal.div (∑ p, (s p - Ideal.div (∑ j, s j) sixteen) * (s p - Ideal.div (∑ j, s j) sixteen)) sixteen + eps)) * g + h

theorem soft_preR (s : Fin 16 → EReal) (g h : EReal) (q : Fin 16) : soft (preR s g h q) = normK s g h q := by
  unfold preR normK
  simp only [div_sixteen, sum_mul_c16]
  rw [div_sqrt]
  have h0 : (0 : EReal) ≤ c16 := by rw [c16_eq]; exact_mod_cast (by norm_num : (0 : ℝ) ≤ 1 / 16)
  have h1 : (0 : EReal) ≤ (∑ p, (s p - (∑ j, s j) * c16) * (s p - (∑ j, s j) * c16)) * c16 :=
    mul_nonneg (Finset.sum_nonneg fun _ _ => sq_nonneg' _) h0
  calc (0 : EReal) < eps := eps_pos
    _ = 0 + eps := (zero_add _).symm
    _ ≤ _ := add_le_add_left h1 _

/-- The softplus as the reference computes it. -/
theorem softR_eq (y : EReal) :
    Scalar.select (FloatOps.cmpf (F := Ideal) (φ := .f32) .une (y - 0) (y - 0)) (y + 0)
      (max y 0 + Ideal.log1p (Ideal.exp (-(FloatOps.absf (F := Ideal) (φ := .f32) (y - 0))))) = soft y := by
  have h : FloatOps.cmpf (F := Ideal) (φ := .f32) .une (y - 0) (y - 0) = 0#1 := by
    show BitVec.ofBool (decide (y - 0 ≠ y - 0)) = 0#1
    simp
  rw [h]
  show max y 0 + Ideal.log (1 + _) = soft y
  unfold soft
  rw [sub_zero, zero_sub]

end Cert.Proof.Math
-- ==== Proof.RefVal.lean ====
/-
  The reference's result, entry by entry over the extended reals.
-/
module

public import proofs.«01_k».proof.Proof.Ref
public import proofs.«01_k».proof.Proof.Spec
public import proofs.«01_k».proof.Proof.Norm

@[expose] public section

noncomputable section

namespace Cert.Proof.RefVal

open Cert.ReferenceIdeal Cert.ReferenceIdeal.Gen Cert.ReferenceIdeal.Value Idealize.ShloMosaic Idealize.ShloMosaic.TcCoe
open Cert.Proof.Math Cert.Proof.Ref
open scoped BigOperators

/-- The concatenation of a row's edge, its neighbour's rows and its angles. -/
abbrev cat (e : FVec Ideal S10000x16x16 .f32) (t a : FVec Ideal S10000x16x16x16 .f32) : FVec Ideal S10000x16x16x48 .f32 :=
  concatenate S10000x16x16x48 3 [⟨S10000x16x16x32, (concatenate S10000x16x16x32 3 [⟨S10000x16x16x16, (broadcastInDim S10000x16x16x16 ![0, 1, 2, 3] bcast_S10000x16x1x16_S10000x16x16x16_0_1_2_3 (broadcastInDim S10000x16x1x16 ![0, 1, 3] bcast_S10000x16x16_S10000x16x1x16_0_1_3 e))⟩, ⟨S10000x16x16x16, t⟩] concatenates_S10000x16x16x16_S10000x16x16x16_S10000x16x16x32_d3)⟩, ⟨S10000x16x16x16, a⟩] concatenates_S10000x16x16x32_S10000x16x16x16_S10000x16x16x48_d3

variable (e : FVec Ideal S10000x16x16 .f32) (t a : FVec Ideal S10000x16x16x16 .f32) (n : Fin 10000) (k o i : Fin 16)

theorem cat_0 : cat e t a (ix4 n k o (⟨i.val, by omega⟩ : Fin 48)) = e (ix3 n k i) := by
  unfold cat; pointwise
  rw [dif_pos (by omega)]
theorem cat_1 : cat e t a (ix4 n k o (⟨16 + i.val, by omega⟩ : Fin 48)) = t (ix4 n k o i) := by
  unfold cat; pointwise
  rw [dif_pos (by omega)]
theorem cat_2 : cat e t a (ix4 n k o (⟨32 + i.val, by omega⟩ : Fin 48)) = a (ix4 n k o i) := by
  unfold cat; pointwise

theorem dot1 (x : FVec Ideal S10000x16x16x48 .f32) (w : FVec Ideal S48x1 .f32) :
    Host.dotGeneral dot_S10000x16x16x48_S48x1_S10000x16x16x1_3_0_012_1_n_n none x w (ix4 n k o (0 : Fin 1))
      = ∑ j : Fin 48, x (ix4 n k o j) * w (ix2 j (0 : Fin 1)) := by
  pointwise
theorem dot16 (x : FVec Ideal S10000x16x16x48 .f32) (w : FVec Ideal S48x16 .f32) :
    Host.dotGeneral dot_S10000x16x16x48_S48x16_S10000x16x16x16_3_0_012_1_n_n none x w (ix4 n k o i)
      = ∑ j : Fin 48, x (ix4 n k o j) * w (ix2 j i) := by
  pointwise

theorem sum48 (f : Fin 48 → EReal) :
    ∑ j, f j = ((∑ i : Fin 16, f ⟨32 + i.val, by omega⟩) + ∑ i : Fin 16, f ⟨16 + i.val, by omega⟩) + ∑ i : Fin 16, f ⟨i.val, by omega⟩ := by
  rw [Fin.sum_univ_two_halves 16 32 rfl, Fin.sum_univ_two_halves 16 16 rfl, add_comm, add_comm (∑ _, _) (∑ _, _)]
  simp only [← Nat.add_assoc]

theorem v8_apply (x : FVec Ideal S10000x16x16x48 .f32) (w : FVec Ideal S48x1 .f32) (b : FVec Ideal S1 .f32) :
    (addf (Host.dotGeneral dot_S10000x16x16x48_S48x1_S10000x16x16x1_3_0_012_1_n_n none x w) (broadcastInDim S10000x16x16x1 ![0, 1, 2, 3] bcast_S1x1x1x1_S10000x16x16x1_0_1_2_3 (broadcastInDim S1x1x1x1 ![3] bcast_S1_S1x1x1x1_3 b))) (ix4 n k o (0 : Fin 1))
      = (∑ j : Fin 48, x (ix4 n k o j) * w (ix2 j (0 : Fin 1))) + b (ix1 0) := by
  pointwise

theorem v20_apply (x : FVec Ideal S10000x16x16x48 .f32) (w : FVec Ideal S48x16 .f32) (b : FVec Ideal S16 .f32)
    (z : FVec Ideal S10000x16x16x1 .f32) :
    (addf a (mulf (broadcastInDim S10000x16x16x16 ![0, 1, 2, 3] bcast_S10000x16x16x1_S10000x16x16x16_0_1_2_3 (select (cmpf .oge z (broadcastInDim S10000x16x16x1 ![] bcast_S_S10000x16x16x1 (constant (F := Ideal) S_ .f32 0x00000000#32))) z (mulf (broadcastInDim S10000x16x16x1 ![] bcast_S_S10000x16x16x1 (constant (F := Ideal) S_ .f32 0x3C23D70A#32)) z))) (addf (Host.dotGeneral dot_S10000x16x16x48_S48x16_S10000x16x16x16_3_0_012_1_n_n none x w) (broadcastInDim S10000x16x16x16 ![0, 1, 2, 3] bcast_S1x1x1x16_S10000x16x16x16_0_1_2_3 (broadcastInDim S1x1x1x16 ![3] bcast_S16_S1x1x1x16_3 b))))) (ix4 n k o i)
      = a (ix4 n k o i) + leak (z (ix4 n k o (0 : Fin 1))) * ((∑ j : Fin 48, x (ix4 n k o j) * w (ix2 j i)) + b (ix1 i)) := by
  unfold leak; pointwise

theorem dev_apply (s : FVec Ideal S10000x16x16x16 .f32) :
    (subf s (broadcastInDim S10000x16x16x16 ![0, 1, 2, 3] bcast_S10000x16x16x1_S10000x16x16x16_0_1_2_3 (Host.divf (broadcastInDim S10000x16x16x1 ![0, 1, 2] bcast_S10000x16x16_S10000x16x16x1_0_1_2 (Host.reduceAdd s (constant (F := Ideal) S_ .f32 0x00000000#32) reducesTo_S10000x16x16x16_S10000x16x16_d3 h_S_)) (broadcastInDim S10000x16x16x1 ![] bcast_S_S10000x16x16x1 (constant (F := Ideal) S_ .f32 0x41800000#32))))) (ix4 n k o i)
      = s (ix4 n k o i) - Ideal.div (∑ j : Fin 16, s (ix4 n k o j)) sixteen := by
  unfold sixteen; pointwise

theorem v38_apply (s u : FVec Ideal S10000x16x16x16 .f32) (g h : FVec Ideal S16 .f32) (v : FVec Ideal S_ .f32)
    (hv : v ix0 = sixteen) :
    (addf (mulf (Host.divf (subf s (broadcastInDim S10000x16x16x16 ![0, 1, 2, 3] bcast_S10000x16x16x1_S10000x16x16x16_0_1_2_3 (Host.divf (broadcastInDim S10000x16x16x1 ![0, 1, 2] bcast_S10000x16x16_S10000x16x16x1_0_1_2 (Host.reduceAdd s (constant (F := Ideal) S_ .f32 0x00000000#32) reducesTo_S10000x16x16x16_S10000x16x16_d3 h_S_)) (broadcastInDim S10000x16x16x1 ![] bcast_S_S10000x16x16x1 (constant (F := Ideal) S_ .f32 0x41800000#32))))) (broadcastInDim S10000x16x16x16 ![0, 1, 2, 3] bcast_S10000x16x16x1_S10000x16x16x16_0_1_2_3 (Host.sqrt (addf (select (broadcastInDim S10000x16x16x1 ![] bcast_S_S10000x16x16x1 (cmpf .ogt v (constant (F := Ideal) S_ .f32 0x00000000#32))) (Host.divf (broadcastInDim S10000x16x16x1 ![0, 1, 2] bcast_S10000x16x16_S10000x16x16x1_0_1_2 (Host.reduceAdd (mulf u u) (constant (F := Ideal) S_ .f32 0x00000000#32) reducesTo_S10000x16x16x16_S10000x16x16_d3 h_S_)) (broadcastInDim S10000x16x16x1 ![] bcast_S_S10000x16x16x1 v)) (broadcastInDim S10000x16x16x1 ![] bcast_S_S10000x16x16x1 (id (constant (F := Ideal) S_ .f32 0x7FC00000#32)))) (broadcastInDim S10000x16x16x1 ![] bcast_S_S10000x16x16x1 (constant (F := Ideal) S_ .f32 0x3727C5AC#32)))))) (broadcastInDim S10000x16x16x16 ![0, 1, 2, 3] bcast_S1x1x1x16_S10000x16x16x16_0_1_2_3 (broadcastInDim S1x1x1x16 ![3] bcast_S16_S1x1x1x16_3 g))) (broadcastInDim S10000x16x16x16 ![0, 1, 2, 3] bcast_S1x1x1x16_S10000x16x16x16_0_1_2_3 (broadcastInDim S1x1x1x16 ![3] bcast_S16_S1x1x1x16_3 h))) (ix4 n k o i)
      = Ideal.div (s (ix4 n k o i) - Ideal.div (∑ x : Fin 16, s (ix4 n k o x)) sixteen)
          (Ideal.sqrt (Ideal.div (∑ x : Fin 16, u (ix4 n k o x) * u (ix4 n k o x)) sixteen + eps)) * g (ix1 i) + h (ix1 i) := by
  have h0 : (0 : EReal) < v ix0 := by rw [hv, sixteen_eq]; exact_mod_cast (by norm_num : (0 : ℝ) < 16)
  rw [← hv]
  unfold eps; pointwise
  rw [if_pos h0, hv]; rfl

theorem soft_apply (s z : FVec Ideal S10000x16x16x16 .f32) (w : FVec Ideal S_ .f32) (hw : w ix0 = 0)
    (hz : z (ix4 n k o i) = s (ix4 n k o i) - 0) :
    (select (cmpf .une z z) (addf s (broadcastInDim S10000x16x16x16 ![] bcast_S_S10000x16x16x16 w)) (addf (maximumf s (broadcastInDim S10000x16x16x16 ![] bcast_S_S10000x16x16x16 w)) (Host.log1p (Host.exp (Host.negf (Host.absf z)))))) (ix4 n k o i)
      = soft (s (ix4 n k o i)) := by
  rw [← softR_eq, ← hz]
  pointwise
  rw [hw, add_zero]

theorem sub0_apply (s : FVec Ideal S10000x16x16x16 .f32) (w : FVec Ideal S_ .f32) :
    (subf s (broadcastInDim S10000x16x16x16 ![] bcast_S_S10000x16x16x16 w)) (ix4 n k o i) = s (ix4 n k o i) - w ix0 := by
  pointwise

variable (V : Valuation τ sig (Elt Ideal)) (hx : ∀ j : S10000x16.Idx, ((V (Proc.devRef .tc main_arg2) : S10000x16.Idx → BitVec 32) j).toNat < 10000)

abbrev r4 : FVec Ideal S10000x16x16x48 .f32 := res_main_v4 V
abbrev r20 : FVec Ideal S10000x16x16x16 .f32 := res_main_v20 V
abbrev r38 : FVec Ideal S10000x16x16x16 .f32 := res_main_v38 V
abbrev u5 : FVec Ideal S10000x16x16x16 .f32 := res_main_call2_v5 V

theorem v4_eq : res_main_v4 V = cat (V (Proc.devRef .tc main_arg1)) (taken (V (Proc.devRef .tc main_arg1)) (V (Proc.devRef .tc main_arg2)))
    (V (Proc.devRef .tc main_arg0)) := rfl

include hx in
/-- The weighted sum of the concatenated row, split into its three vectors. -/
theorem lin_cat (w : Fin 48 → EReal) (b : EReal) :
    (∑ j : Fin 48, r4 V (ix4 n k o j) * w j) + b
      = lin (fun i => V (Proc.devRef .tc main_arg0) (ix4 n k o i))
          (fun i => V (Proc.devRef .tc main_arg1) (ix3 (nbr (V (Proc.devRef .tc main_arg2)) n k) o i))
          (fun i => V (Proc.devRef .tc main_arg1) (ix3 n k i))
          (fun i => w ⟨32 + i.val, by omega⟩) (fun i => w ⟨16 + i.val, by omega⟩) (fun i => w ⟨i.val, by omega⟩) b := by
  rw [sum48]
  unfold lin
  refine congrArg (· + b) (congrArg₂ (· + ·) (congrArg₂ (· + ·) ?_ ?_) ?_)
  · refine Finset.sum_congr rfl fun i _ => congrArg (· * _) ?_
    exact cat_2 _ _ _ n k o i
  · refine Finset.sum_congr rfl fun i _ => congrArg (· * _) ?_
    exact (cat_1 _ _ _ n k o i).trans (taken_apply _ hx n k o i)
  · refine Finset.sum_congr rfl fun i _ => congrArg (· * _) ?_
    exact cat_0 _ _ _ n k o i

include hx in
theorem upd_apply : res_main_v20 V (ix4 n k o i)
    = upd (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) n k o i := by
  refine (v20_apply _ n k o i _ _ _ _).trans ?_
  unfold upd rowS
  refine congrArg₂ (· + ·) rfl (congrArg₂ (· * ·) (congrArg leak ?_) ?_)
  · refine (v8_apply n k o _ _ _).trans ?_
    exact lin_cat n k o V hx (fun j => V (Proc.devRef .tc main_arg3) (ix2 j (0 : Fin 1))) _
  · exact lin_cat n k o V hx (fun j => V (Proc.devRef .tc main_arg5) (ix2 j i)) _

theorem count_eq : res_main_call2_v8 V ix0 = sixteen := by
  show sixteen - ((((0#32 : BitVec 32).toInt : ℝ)) : EReal) = sixteen
  simp

theorem norm_congr (s u p : Fin 16 → EReal) (g h : EReal) (i : Fin 16) (hs : ∀ x, s x = p x)
    (hu : ∀ x, u x = s x - Ideal.div (∑ j : Fin 16, s j) sixteen) :
    Ideal.div (s i - Ideal.div (∑ x : Fin 16, s x) sixteen)
      (Ideal.sqrt (Ideal.div (∑ x : Fin 16, u x * u x) sixteen + eps)) * g + h = preR p g h i := by
  obtain rfl := funext hs
  obtain rfl := funext hu
  rfl

include hx in
theorem norm_apply : res_main_v38 V (ix4 n k o i)
    = preR (upd (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) n k o)
        (V (Proc.devRef .tc main_arg7) (ix1 i)) (V (Proc.devRef .tc main_arg8) (ix1 i)) i := by
  refine Eq.trans (b := Ideal.div (r20 V (ix4 n k o i) - Ideal.div (∑ x : Fin 16, r20 V (ix4 n k o x)) sixteen)
          (Ideal.sqrt (Ideal.div (∑ x : Fin 16, u5 V (ix4 n k o x) * u5 V (ix4 n k o x)) sixteen + eps))
            * V (Proc.devRef .tc main_arg7) (ix1 i) + V (Proc.devRef .tc main_arg8) (ix1 i)) ?_ ?_
  · exact v38_apply n k o i (res_main_v20 V) (res_main_call2_v5 V) _ _ _ (count_eq V)
  exact norm_congr (fun x => r20 V (ix4 n k o x)) (fun x => u5 V (ix4 n k o x)) _ _ _ i (fun x => upd_apply n k o x V hx) (fun x => dev_apply n k o x (res_main_v20 V))

/-- The reference's result, as its run leaves it. -/
abbrev out : FVec Ideal S10000x16x16x16 .f32 :=
  select (cmpf .une (res_main_call3_v3 V) (res_main_call3_v3 V)) (addf (res_main_v38 V) (broadcastInDim S10000x16x16x16 ![] bcast_S_S10000x16x16x16 (res_main_call3_cst V))) (addf (maximumf (res_main_v38 V) (broadcastInDim S10000x16x16x16 ![] bcast_S_S10000x16x16x16 (res_main_call3_cst V))) (Host.log1p (Host.exp (Host.negf (Host.absf (res_main_call3_v3 V))))))

include hx in
theorem out_apply : out V (ix4 n k o i)
    = spec (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6))
        (V (Proc.devRef .tc main_arg7)) (V (Proc.devRef .tc main_arg8)) n k o i := by
  have hc : res_main_call3_cst V ix0 = (0 : EReal) := by
    show Ideal.ofBits .f32 0#32 = 0
    simp [Ideal.ofBits, Ideal.ieee]
  refine (soft_apply n k o i _ _ _ hc ?_).trans ?_
  · refine (sub0_apply n k o i (res_main_v38 V) (res_main_call3_cst V)).trans ?_
    rw [hc]
  · rw [norm_apply n k o i V hx, soft_preR]
    rfl

end Cert.Proof.RefVal
-- ==== Proof.Same.lean ====
/-
  The two printed programs are one program: the body tables and the threads are equal, over any reading of the floating-point words.
-/
module

public import proofs.«01_k».proof.Proof.Gen.Kernel
public import proofs.«01_k».proof.Proof.Gen.KernelIdeal

@[expose] public section

noncomputable section

namespace Cert.Proof.Same

open Idealize.ShloMosaic

variable {F : FTy → Type} [FloatOps F]

set_option maxHeartbeats 2000000 in
theorem bodies_eq : Cert.Kernel.defs₀ (F := F) = Cert.KernelIdeal.defs₀ (F := F) := by
  funext p l a
  match p, l, a with
  | .tc, ⟨0, _⟩, _ => rfl
  | .tc, ⟨1, _⟩, (_, _) => rfl
  | .scScalar _, ⟨0, _⟩, _ => rfl
  | .scScalar _, ⟨1, _⟩, _ => rfl
  | .scVector _ _, ⟨0, _⟩, _ => rfl
  | .scVector _ _, ⟨1, _⟩, _ => rfl

set_option maxHeartbeats 2000000 in
theorem defs_eq : Cert.Kernel.defs (F := F) = Cert.KernelIdeal.defs (F := F) :=
  congrArg (fun d => Cert.KernelIdeal.sc.defs (Pipeline.defs Cert.KernelIdeal.pcfgs d)) bodies_eq

set_option maxHeartbeats 2000000 in
theorem part0_eq : Cert.Kernel.main_part0 (F := F) = Cert.KernelIdeal.main_part0 (F := F) := rfl

set_option maxHeartbeats 2000000 in
theorem part1_eq : Cert.Kernel.main_part1 (F := F) = Cert.KernelIdeal.main_part1 (F := F) := rfl

set_option maxHeartbeats 2000000 in
theorem main_eq : Cert.Kernel.main (F := F) = Cert.KernelIdeal.main (F := F) := by
  funext d
  show (do Cert.Kernel.main_part0 (F := F) d; Cert.Kernel.main_part1 (F := F) d) = _
  rw [part0_eq, part1_eq]; rfl

set_option maxHeartbeats 2000000 in
theorem threads_eq : Cert.Kernel.threads (F := F) = Cert.KernelIdeal.threads (F := F) :=
  congrArg (fun d => Cert.KernelIdeal.sc.threads d) main_eq

end Cert.Proof.Same
-- ==== Proof.lean ====
/-
  The claim: the kernel runs, leaves its arguments as they were, and its result is the reference's.
-/
module

public import proofs.«01_k».proof.Defs
public import proofs.«01_k».proof.Proof.Gen.Kernel
public import proofs.«01_k».proof.Proof.Gen.ReferenceIdeal.Run
public import proofs.«01_k».proof.Proof.Gen.Pre_in_range
public import proofs.«01_k».proof.Proof.Launch
public import proofs.«01_k».proof.Proof.Val
public import proofs.«01_k».proof.Proof.RefVal
public import proofs.«01_k».proof.Proof.Same

@[expose] public section

noncomputable section

namespace Cert.Proof

open Idealize.ShloMosaic Idealize.ShloMosaic.TcCoe Idealize.SL.Sem
open Cert.KernelIdeal
open Cert.Proof.Tile Cert.Proof.Math

/-- The precondition: every word of the index array names a row. -/
theorem small_of_pre {F : FTy → Type} [FloatOps F] (a : FVec F Cert.Pre_in_range.S10000x16x16x16 .f32) (e : FVec F Cert.Pre_in_range.S10000x16x16 .f32)
    (x : IVec Cert.Pre_in_range.S10000x16 32) (wa : FVec F Cert.Pre_in_range.S48x1 .f32) (ba : FVec F Cert.Pre_in_range.S1 .f32)
    (wl : FVec F Cert.Pre_in_range.S48x16 .f32) (bl g b : FVec F Cert.Pre_in_range.S16 .f32)
    (h : Cert.Pre_in_range.fn (F := F) a e x wa ba wl bl g b = fun _ => 1#1) (j : Cert.Pre_in_range.S10000x16.Idx) : (x j).toNat < 10000 := by
  have hj : IntOp.andi (BitVec.ofBool ((0#32).sle (x j))) (BitVec.ofBool ((x j).slt 10000#32)) = 1#1 := congrFun h j
  generalize x j = v at hj
  by_cases h0 : (0#32).sle v
  · by_cases h1 : v.slt 10000#32
    · rw [BitVec.sle_eq_decide, decide_eq_true_eq, BitVec.toInt_eq_toNat_cond, BitVec.toInt_eq_toNat_cond] at h0
      rw [BitVec.slt_eq_decide, decide_eq_true_eq, BitVec.toInt_eq_toNat_cond, BitVec.toInt_eq_toNat_cond] at h1
      simp only [BitVec.toNat_ofNat, Nat.reducePow, Nat.reduceMod] at h0 h1
      omega
    · rw [Bool.not_eq_true] at h1
      rw [h1] at hj
      cases h2 : (0#32).sle v <;> rw [h2] at hj <;> exact absurd hj (by decide)
  · rw [Bool.not_eq_true] at h0
    rw [h0] at hj
    cases h2 : v.slt 10000#32 <;> rw [h2] at hj <;> exact absurd hj (by decide)

variable {F : FTy → Type} [FloatOps F] [∀ e, Nonempty (Elt F e)] {m : (ℓ : Loc nD τ sig) → Buf (Elt F) ℓ}

/-- What the run leaves in an array outside every scope. -/
theorem at_ref {r : PUnit × MemSt nD τ sig (Elt F)} (q : QC m r) (c : Dev nD) (b : Ref sig .tc) (h : (Proc.devRef .tc b : DevRef τ sig).isScoped = false) :
    r.2.mem ((c.tc : Thread nD τ).loc b) = W5 m c (Proc.devRef .tc b) :=
  q.1 c _ (uc_mem b h)

/-- The arguments end as they began. -/
theorem args_kept {r : PUnit × MemSt nD τ sig (Elt F)} (q : QC m r) (c : Dev nD) :
    r.2.mem ((c.tc : Thread Cert.KernelIdeal.nD Cert.KernelIdeal.τ).loc main_arg0) = m ((c.tc : Thread Cert.KernelIdeal.nD Cert.KernelIdeal.τ).loc main_arg0)
      ∧ r.2.mem ((c.tc : Thread Cert.KernelIdeal.nD Cert.KernelIdeal.τ).loc main_arg1) = m ((c.tc : Thread Cert.KernelIdeal.nD Cert.KernelIdeal.τ).loc main_arg1)
      ∧ r.2.mem ((c.tc : Thread Cert.KernelIdeal.nD Cert.KernelIdeal.τ).loc main_arg2) = m ((c.tc : Thread Cert.KernelIdeal.nD Cert.KernelIdeal.τ).loc main_arg2)
      ∧ r.2.mem ((c.tc : Thread Cert.KernelIdeal.nD Cert.KernelIdeal.τ).loc main_arg3) = m ((c.tc : Thread Cert.KernelIdeal.nD Cert.KernelIdeal.τ).loc main_arg3)
      ∧ r.2.mem ((c.tc : Thread Cert.KernelIdeal.nD Cert.KernelIdeal.τ).loc main_arg4) = m ((c.tc : Thread Cert.KernelIdeal.nD Cert.KernelIdeal.τ).loc main_arg4)
      ∧ r.2.mem ((c.tc : Thread Cert.KernelIdeal.nD Cert.KernelIdeal.τ).loc main_arg5) = m ((c.tc : Thread Cert.KernelIdeal.nD Cert.KernelIdeal.τ).loc main_arg5)
      ∧ r.2.mem ((c.tc : Thread Cert.KernelIdeal.nD Cert.KernelIdeal.τ).loc main_arg6) = m ((c.tc : Thread Cert.KernelIdeal.nD Cert.KernelIdeal.τ).loc main_arg6)
      ∧ r.2.mem ((c.tc : Thread Cert.KernelIdeal.nD Cert.KernelIdeal.τ).loc main_arg7) = m ((c.tc : Thread Cert.KernelIdeal.nD Cert.KernelIdeal.τ).loc main_arg7)
      ∧ r.2.mem ((c.tc : Thread Cert.KernelIdeal.nD Cert.KernelIdeal.τ).loc main_arg8) = m ((c.tc : Thread Cert.KernelIdeal.nD Cert.KernelIdeal.τ).loc main_arg8) :=
  ⟨(at_ref q c main_arg0 (by decide)).trans ((W5_other m c main_arg0 (by decide)).trans (Prep.W_arg0 _)),
  (at_ref q c main_arg1 (by decide)).trans ((W5_other m c main_arg1 (by decide)).trans (Prep.W_arg1 _)),
  (at_ref q c main_arg2 (by decide)).trans ((W5_other m c main_arg2 (by decide)).trans (Prep.W_arg2 _)),
  (at_ref q c main_arg3 (by decide)).trans ((W5_other m c main_arg3 (by decide)).trans (Prep.W_arg3 _)),
  (at_ref q c main_arg4 (by decide)).trans ((W5_other m c main_arg4 (by decide)).trans (Prep.W_arg4 _)),
  (at_ref q c main_arg5 (by decide)).trans ((W5_other m c main_arg5 (by decide)).trans (Prep.W_arg5 _)),
  (at_ref q c main_arg6 (by decide)).trans ((W5_other m c main_arg6 (by decide)).trans (Prep.W_arg6 _)),
  (at_ref q c main_arg7 (by decide)).trans ((W5_other m c main_arg7 (by decide)).trans (Prep.W_arg7 _)),
  (at_ref q c main_arg8 (by decide)).trans ((W5_other m c main_arg8 (by decide)).trans (Prep.W_arg8 _))⟩

variable (m) in
/-- The kernel's run over any reading of the floating-point words: the arguments kept, every counter zero. -/
theorem frame (ρ : Dev nD → PrngReg) (hs : PreOK m) : θ_run (defs (F := F)) (threads (F := F)) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run Cert.KernelIdeal.defs _ _).mono (fun _ q => ⟨args_kept q, q.2⟩) (run_main m ρ hs)

theorem frame_ideal : Cert.quiescent_KernelIdeal := fun m ρ h =>
  frame (F := Ideal) m ρ fun d => small_of_pre (F := Ideal) _ _ _ _ _ _ _ _ _ (h d)

theorem small_kernel (m : (ℓ : Loc Cert.Kernel.nD Cert.Kernel.τ Cert.Kernel.sig) → Buf (Elt Bits) ℓ) (h : Cert.Pre_Kernel m) : PreOK (F := Bits) m :=
  fun d => small_of_pre (F := Bits) _ _ _ _ _ _ _ _ _ (h d)

/-- The kernel as printed runs as the other printed program does. -/
theorem run_kernel (m : (ℓ : Loc Cert.Kernel.nD Cert.Kernel.τ Cert.Kernel.sig) → Buf (Elt Bits) ℓ) (ρ : Dev Cert.Kernel.nD → PrngReg)
    (hs : PreOK (F := Bits) m) :
    θ_run (Cert.Kernel.defs (F := Bits)) (Cert.Kernel.threads (F := Bits)) ⟨m, fun _ => 0, ρ⟩ (fun r => QC (F := Bits) m r) := by
  rw [Same.defs_eq, Same.threads_eq]
  exact run_main (F := Bits) m ρ hs

theorem frame_kernel : Cert.quiescent_Kernel := fun m ρ h =>
  (θ_run Cert.Kernel.defs _ _).mono (fun _ q => ⟨args_kept (F := Bits) q, q.2⟩) (run_kernel m ρ (small_kernel m h))

theorem frame_reference_ideal : Cert.quiescent_ReferenceIdeal := fun m ρ _ =>
  (θ_run Cert.ReferenceIdeal.defs _ _).mono (fun r q => ⟨fun c => (q c).2, sem_eq_zero_of_no_sems (by decide) r.2⟩)
    (Cert.ReferenceIdeal.Value.run (F := Ideal) m ρ)

theorem frame_reference_ideal_pre : Cert.quiescent_ReferenceIdeal_pre_in_range := fun m ρ _ => frame_reference_ideal m ρ trivial

theorem algebraic : Cert.algebraic_KernelIdeal_ReferenceIdeal := fun m ρ m' ρ' h ha => by
  have hs : PreOK m := fun d => small_of_pre (F := Ideal) _ _ _ _ _ _ _ _ _ (h d)
  refine ⟨fun c => W5 m c (Proc.devRef .tc main_v62),
    (θ_run Cert.KernelIdeal.defs _ _).mono (fun _ q c => ⟨at_ref q c main_v62 (by decide), args_kept q c⟩) (run_main (F := Ideal) m ρ hs), ?_⟩
  refine (θ_run Cert.ReferenceIdeal.defs _ _).mono (fun _ q c => ⟨(q c).1.trans ?_, (q c).2⟩)
    (Cert.ReferenceIdeal.Value.run (F := Ideal) m' ρ')
  obtain ⟨h0, h1, h2, h3, h4, h5, h6, h7, h8⟩ := ha c
  refine funext fun j => ?_
  have hj : j = ix4 (j 0) (j 1) (j 2) (j 3) := by
    funext a
    match a with
    | ⟨0, _⟩ => rfl
    | ⟨1, _⟩ => rfl
    | ⟨2, _⟩ => rfl
    | ⟨3, _⟩ => rfl
  rw [hj]
  refine (RefVal.out_apply (j 0) (j 1) (j 2) (j 3) (fun b => m' (c, b)) ?_).trans
    ((spec_congr h0 h1 h2 h3 h4 h5 h6 h7 h8 (j 0) (j 1) (j 2) (j 3)).trans (Val.result_apply m c (j 0) (j 1) (j 2) (j 3)).symm)
  intro i
  exact lt_of_eq_of_lt (congrArg BitVec.toNat (congrFun h2 i)) (hs c i)

theorem claim : Cert.Claim :=
  ⟨Cert.Kernel.Gen.facts, Cert.KernelIdeal.Gen.facts, Cert.ReferenceIdeal.Gen.facts, Cert.Pre_in_range.Gen.facts,
    frame_kernel, frame_ideal, frame_reference_ideal, frame_reference_ideal_pre, trivial, algebraic⟩

end Cert.Proof

end
